-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_near_tie [hPre_no_near_tie : Cert.Pre_no_near_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_near_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_near_tie [hPre_no_near_tie : Cert.Pre_no_near_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_near_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_near_tie [hKernelIdeal : Cert.KernelIdeal.Facts] [hPre_no_near_tie : Cert.Pre_no_near_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_near_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_near_tie [hReferenceIdeal : Cert.ReferenceIdeal.Facts] [hPre_no_near_tie : Cert.Pre_no_near_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_near_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_two_over_ln2" .f32 0xC038AA3B#32 ((-(2 * (Real.log 2)⁻¹) : ℝ) : EReal)
  ∧ IdealRules.named_const.Statement Cert.KernelIdeal.κ "loss_scale" .f32 0x34BDA12F#32 ((5 / 14155776 : ℝ) : EReal)

def algebraic_KernelIdeal_ReferenceIdeal_pre_no_near_tie [hKernelIdeal : Cert.KernelIdeal.Facts] [hReferenceIdeal : Cert.ReferenceIdeal.Facts] [hPre_no_near_tie : Cert.Pre_no_near_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_near_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_v226) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_near_tie : Cert.Pre_no_near_tie.Facts),
    quiescent_Kernel (hKernel := hKernel)
    ∧ quiescent_KernelIdeal (hKernelIdeal := hKernelIdeal)
    ∧ quiescent_KernelIdeal_pre_no_near_tie (hKernelIdeal := hKernelIdeal) (hPre_no_near_tie := hPre_no_near_tie)
    ∧ quiescent_ReferenceIdeal (hReferenceIdeal := hReferenceIdeal)
    ∧ quiescent_ReferenceIdeal_pre_no_near_tie (hReferenceIdeal := hReferenceIdeal) (hPre_no_near_tie := hPre_no_near_tie)
    ∧ preserves_Kernel_KernelIdeal
    ∧ algebraic_KernelIdeal_ReferenceIdeal_pre_no_near_tie (hKernelIdeal := hKernelIdeal) (hReferenceIdeal := hReferenceIdeal) (hPre_no_near_tie := hPre_no_near_tie)
-- ==== Pre_no_near_tie.lean ====
abbrev S16x384x24x24 : Shape := ⟨4, ![16, 384, 24, 24]⟩
abbrev S4x1024x96 : Shape := ⟨3, ![4, 1024, 96]⟩
abbrev S16x96x24x24 : Shape := ⟨4, ![16, 96, 24, 24]⟩
abbrev S16x24x24x96 : Shape := ⟨4, ![16, 24, 24, 96]⟩
abbrev S9216x96 : Shape := ⟨2, ![9216, 96]⟩
abbrev S1x1024x96 : Shape := ⟨3, ![1, 1024, 96]⟩
abbrev S1024x96 : Shape := ⟨2, ![1024, 96]⟩
abbrev S_ : Shape := ⟨0, ![]⟩
abbrev S9216 : Shape := ⟨1, ![9216]⟩
abbrev S9216x1 : Shape := ⟨2, ![9216, 1]⟩
abbrev S1024 : Shape := ⟨1, ![1024]⟩
abbrev S1x1024 : Shape := ⟨2, ![1, 1024]⟩
abbrev S9216x1024 : Shape := ⟨2, ![9216, 1024]⟩
abbrev S96x1024 : Shape := ⟨2, ![96, 1024]⟩
abbrev S9216x4096 : Shape := ⟨2, ![9216, 4096]⟩

class Facts : Prop where
  slices_S16x384x24x24_S16x96x24x24_0_0_0_0 : S16x384x24x24.Slices ![0, 0, 0, 0] S16x96x24x24
  slices_S16x384x24x24_S16x96x24x24_0_96_0_0 : S16x384x24x24.Slices ![0, 96, 0, 0] S16x96x24x24
  slices_S16x384x24x24_S16x96x24x24_0_192_0_0 : S16x384x24x24.Slices ![0, 192, 0, 0] S16x96x24x24
  slices_S16x384x24x24_S16x96x24x24_0_288_0_0 : S16x384x24x24.Slices ![0, 288, 0, 0] S16x96x24x24
  transposes_S16x96x24x24_S16x24x24x96_0_2_3_1 : S16x96x24x24.Transposes [0, 2, 3, 1] S16x24x24x96
  shapeCasts_S16x24x24x96_S9216x96 : S16x24x24x96.ShapeCasts S9216x96
  slices_S4x1024x96_S1x1024x96_0_0_0 : S4x1024x96.Slices ![0, 0, 0] S1x1024x96
  shapeCasts_S1x1024x96_S1024x96 : S1x1024x96.ShapeCasts S1024x96
  reducesTo_S9216x96_S9216_d1 : S9216x96.ReducesTo [1] S9216
  h_S_ : 0 < S_.numel
  bcast_S9216_S9216x1_0 : S9216.BroadcastsInDim S9216x1 (![0] : Fin 1 → Fin S9216x1.rank)
  reducesTo_S1024x96_S1024_d1 : S1024x96.ReducesTo [1] S1024
  bcast_S1024_S1x1024_1 : S1024.BroadcastsInDim S1x1024 (![1] : Fin 1 → Fin S1x1024.rank)
  bcast_S9216x1_S9216x1024_0_1 : S9216x1.BroadcastsInDim S9216x1024 (![0, 1] : Fin 2 → Fin S9216x1024.rank)
  bcast_S1x1024_S9216x1024_0_1 : S1x1024.BroadcastsInDim S9216x1024 (![0, 1] : Fin 2 → Fin S9216x1024.rank)
  transposes_S1024x96_S96x1024_1_0 : S1024x96.Transposes [1, 0] S96x1024
  bcast_S_S9216x1024 : S_.BroadcastsInDim S9216x1024 (![] : Fin 0 → Fin S9216x1024.rank)
  reducesTo_S9216x1024_S9216_d1 : S9216x1024.ReducesTo [1] S9216
  slices_S4x1024x96_S1x1024x96_1_0_0 : S4x1024x96.Slices ![1, 0, 0] S1x1024x96
  slices_S4x1024x96_S1x1024x96_2_0_0 : S4x1024x96.Slices ![2, 0, 0] S1x1024x96
  slices_S4x1024x96_S1x1024x96_3_0_0 : S4x1024x96.Slices ![3, 0, 0] S1x1024x96
  concatenates_S9216x1024_S9216x1024_S9216x1024_S9216x1024_S9216x4096_d1 : Shape.Concatenates [S9216x1024, S9216x1024, S9216x1024, S9216x1024] S9216x4096 1
  dot_S9216x96_S96x1024_S9216x1024_1_0_0_1_n_n_wf : DotDims.WF S9216x96 S96x1024 S9216x1024 [1] [0] [0] [1] [] []

variable [Facts]

def dot_S9216x96_S96x1024_S9216x1024_1_0_0_1_n_n : DotDims S9216x96 S96x1024 S9216x1024 where
  lhsContracting := [1]
  rhsContracting := [0]
  lhsNonContracting := [0]
  rhsNonContracting := [1]
  lhsBatch := []
  rhsBatch := []
  wf := dot_S9216x96_S96x1024_S9216x1024_1_0_0_1_n_n_wf
def fn_part5 {F : FTy → Type} [FloatOps F] (main_v30 : IVec S9216x1024 1) (main_v57 : IVec S9216x1024 1) (main_v84 : IVec S9216x1024 1) (main_v97 : FVec F S9216x1024 .f32) (main_v99 : FVec F S9216x1024 .f32) : IVec S9216x4096 1 :=
  let main_cst_19 : FVec F S_ .f32 := constant S_ .f32 0x40000000#32
  let main_v100 : FVec F S9216x1024 .f32 := broadcastInDim S9216x1024 ![] bcast_S_S9216x1024 main_cst_19
  let main_v101 : FVec F S9216x1024 .f32 := mulf main_v100 main_v99
  let main_v102 : FVec F S9216x1024 .f32 := subf main_v97 main_v101
  let main_cst_20 : FVec F S_ .f32 := constant S_ .f32 0x7F800000#32
  let main_v103 : FVec F S9216 .f32 := (fun x v => Host.reduce FloatOps.minimumf x v reducesTo_S9216x1024_S9216_d1 h_S_) main_v102 main_cst_20
  let main_v104 : FVec F S9216x1 .f32 := broadcastInDim S9216x1 ![0] bcast_S9216_S9216x1_0 main_v103
  let main_v105 : FVec F S9216x1024 .f32 := broadcastInDim S9216x1024 ![0, 1] bcast_S9216x1_S9216x1024_0_1 main_v104
  let main_v106 : FVec F S9216x1024 .f32 := subf main_v102 main_v105
  let main_cst_21 : FVec F S_ .f32 := constant S_ .f32 0x00000000#32
  let main_v107 : FVec F S9216x1024 .f32 := broadcastInDim S9216x1024 ![] bcast_S_S9216x1024 main_cst_21
  let main_v108 : IVec S9216x1024 1 := cmpf .oeq main_v106 main_v107
  let main_cst_22 : FVec F S_ .f32 := constant S_ .f32 0x33800000#32
  let main_v109 : FVec F S9216x1024 .f32 := broadcastInDim S9216x1024 ![] bcast_S_S9216x1024 main_cst_22
  let main_v110 : IVec S9216x1024 1 := cmpf .oge main_v106 main_v109
  let main_v111 : IVec S9216x1024 1 := ori main_v108 main_v110
  let main_v112 : IVec S9216x4096 1 := concatenate S9216x4096 1 [⟨S9216x1024, main_v30⟩, ⟨S9216x1024, main_v57⟩, ⟨S9216x1024, main_v84⟩, ⟨S9216x1024, main_v111⟩] concatenates_S9216x1024_S9216x1024_S9216x1024_S9216x1024_S9216x4096_d1
  main_v112

def fn_part4 {F : FTy → Type} [FloatOps F] (main_arg1 : FVec F S4x1024x96 .f32) (main_v3 : FVec F S16x96x24x24 .f32) (main_v30 : IVec S9216x1024 1) (main_v57 : IVec S9216x1024 1) (main_v79 : FVec F S9216x1024 .f32) : IVec S9216x4096 1 :=
  let main_cst_15 : FVec F S_ .f32 := constant S_ .f32 0x00000000#32
  let main_v80 : FVec F S9216x1024 .f32 := broadcastInDim S9216x1024 ![] bcast_S_S9216x1024 main_cst_15
  let main_v81 : IVec S9216x1024 1 := cmpf .oeq main_v79 main_v80
  let main_cst_16 : FVec F S_ .f32 := constant S_ .f32 0x33800000#32
  let main_v82 : FVec F S9216x1024 .f32 := broadcastInDim S9216x1024 ![] bcast_S_S9216x1024 main_cst_16
  let main_v83 : IVec S9216x1024 1 := cmpf .oge main_v79 main_v82
  let main_v84 : IVec S9216x1024 1 := ori main_v81 main_v83
  let main_v85 : FVec F S16x24x24x96 .f32 := (transpose S16x24x24x96 [0, 2, 3, 1] · transposes_S16x96x24x24_S16x24x24x96_0_2_3_1) main_v3
  let main_v86 : FVec F S9216x96 .f32 := shapeCast S9216x96 main_v85 shapeCasts_S16x24x24x96_S9216x96
  let main_v87 : FVec F S1x1024x96 .f32 := (extractStridedSlice S1x1024x96 ![3, 0, 0] · slices_S4x1024x96_S1x1024x96_3_0_0) main_arg1
  let main_v88 : FVec F S1024x96 .f32 := shapeCast S1024x96 main_v87 shapeCasts_S1x1024x96_S1024x96
  let main_v89 : FVec F S9216x96 .f32 := mulf main_v86 main_v86
  let main_cst_17 : FVec F S_ .f32 := constant S_ .f32 0x00000000#32
  let main_v90 : FVec F S9216 .f32 := (fun x v => Host.reduceAdd x v reducesTo_S9216x96_S9216_d1 h_S_) main_v89 main_cst_17
  let main_v91 : FVec F S9216x1 .f32 := broadcastInDim S9216x1 ![0] bcast_S9216_S9216x1_0 main_v90
  let main_v92 : FVec F S1024x96 .f32 := mulf main_v88 main_v88
  let main_cst_18 : FVec F S_ .f32 := constant S_ .f32 0x00000000#32
  let main_v93 : FVec F S1024 .f32 := (fun x v => Host.reduceAdd x v reducesTo_S1024x96_S1024_d1 h_S_) main_v92 main_cst_18
  let main_v94 : FVec F S1x1024 .f32 := broadcastInDim S1x1024 ![1] bcast_S1024_S1x1024_1 main_v93
  let main_v95 : FVec F S9216x1024 .f32 := broadcastInDim S9216x1024 ![0, 1] bcast_S9216x1_S9216x1024_0_1 main_v91
  let main_v96 : FVec F S9216x1024 .f32 := broadcastInDim S9216x1024 ![0, 1] bcast_S1x1024_S9216x1024_0_1 main_v94
  let main_v97 : FVec F S9216x1024 .f32 := addf main_v95 main_v96
  let main_v98 : FVec F S96x1024 .f32 := (transpose S96x1024 [1, 0] · transposes_S1024x96_S96x1024_1_0) main_v88
  let main_v99 : FVec F S9216x1024 .f32 := (fun l r => Host.dotGeneral dot_S9216x96_S96x1024_S9216x1024_1_0_0_1_n_n none l r) main_v86 main_v98
  fn_part5 (F := F) main_v30 main_v57 main_v84 main_v97 main_v99

def fn_part3 {F : FTy → Type} [FloatOps F] (main_arg1 : FVec F S4x1024x96 .f32) (main_v3 : FVec F S16x96x24x24 .f32) (main_v30 : IVec S9216x1024 1) (main_v57 : IVec S9216x1024 1) (main_v59 : FVec F S9216x96 .f32) : IVec S9216x4096 1 :=
  let main_v60 : FVec F S1x1024x96 .f32 := (extractStridedSlice S1x1024x96 ![2, 0, 0] · slices_S4x1024x96_S1x1024x96_2_0_0) main_arg1
  let main_v61 : FVec F S1024x96 .f32 := shapeCast S1024x96 main_v60 shapeCasts_S1x1024x96_S1024x96
  let main_v62 : FVec F S9216x96 .f32 := mulf main_v59 main_v59
  let main_cst_11 : FVec F S_ .f32 := constant S_ .f32 0x00000000#32
  let main_v63 : FVec F S9216 .f32 := (fun x v => Host.reduceAdd x v reducesTo_S9216x96_S9216_d1 h_S_) main_v62 main_cst_11
  let main_v64 : FVec F S9216x1 .f32 := broadcastInDim S9216x1 ![0] bcast_S9216_S9216x1_0 main_v63
  let main_v65 : FVec F S1024x96 .f32 := mulf main_v61 main_v61
  let main_cst_12 : FVec F S_ .f32 := constant S_ .f32 0x00000000#32
  let main_v66 : FVec F S1024 .f32 := (fun x v => Host.reduceAdd x v reducesTo_S1024x96_S1024_d1 h_S_) main_v65 main_cst_12
  let main_v67 : FVec F S1x1024 .f32 := broadcastInDim S1x1024 ![1] bcast_S1024_S1x1024_1 main_v66
  let main_v68 : FVec F S9216x1024 .f32 := broadcastInDim S9216x1024 ![0, 1] bcast_S9216x1_S9216x1024_0_1 main_v64
  let main_v69 : FVec F S9216x1024 .f32 := broadcastInDim S9216x1024 ![0, 1] bcast_S1x1024_S9216x1024_0_1 main_v67
  let main_v70 : FVec F S9216x1024 .f32 := addf main_v68 main_v69
  let main_v71 : FVec F S96x1024 .f32 := (transpose S96x1024 [1, 0] · transposes_S1024x96_S96x1024_1_0) main_v61
  let main_v72 : FVec F S9216x1024 .f32 := (fun l r => Host.dotGeneral dot_S9216x96_S96x1024_S9216x1024_1_0_0_1_n_n none l r) main_v59 main_v71
  let main_cst_13 : FVec F S_ .f32 := constant S_ .f32 0x40000000#32
  let main_v73 : FVec F S9216x1024 .f32 := broadcastInDim S9216x1024 ![] bcast_S_S9216x1024 main_cst_13
  let main_v74 : FVec F S9216x1024 .f32 := mulf main_v73 main_v72
  let main_v75 : FVec F S9216x1024 .f32 := subf main_v70 main_v74
  let main_cst_14 : FVec F S_ .f32 := constant S_ .f32 0x7F800000#32
  let main_v76 : FVec F S9216 .f32 := (fun x v => Host.reduce FloatOps.minimumf x v reducesTo_S9216x1024_S9216_d1 h_S_) main_v75 main_cst_14
  let main_v77 : FVec F S9216x1 .f32 := broadcastInDim S9216x1 ![0] bcast_S9216_S9216x1_0 main_v76
  let main_v78 : FVec F S9216x1024 .f32 := broadcastInDim S9216x1024 ![0, 1] bcast_S9216x1_S9216x1024_0_1 main_v77
  let main_v79 : FVec F S9216x1024 .f32 := subf main_v75 main_v78
  fn_part4 (F := F) main_arg1 main_v3 main_v30 main_v57 main_v79

def fn_part2 {F : FTy → Type} [FloatOps F] (main_arg1 : FVec F S4x1024x96 .f32) (main_v2 : FVec F S16x96x24x24 .f32) (main_v3 : FVec F S16x96x24x24 .f32) (main_v30 : IVec S9216x1024 1) (main_v32 : FVec F S9216x96 .f32) (main_v34 : FVec F S1024x96 .f32) (main_v37 : FVec F S9216x1 .f32) (main_v39 : FVec F S1024 .f32) : IVec S9216x4096 1 :=
  let main_v40 : FVec F S1x1024 .f32 := broadcastInDim S1x1024 ![1] bcast_S1024_S1x1024_1 main_v39
  let main_v41 : FVec F S9216x1024 .f32 := broadcastInDim S9216x1024 ![0, 1] bcast_S9216x1_S9216x1024_0_1 main_v37
  let main_v42 : FVec F S9216x1024 .f32 := broadcastInDim S9216x1024 ![0, 1] bcast_S1x1024_S9216x1024_0_1 main_v40
  let main_v43 : FVec F S9216x1024 .f32 := addf main_v41 main_v42
  let main_v44 : FVec F S96x1024 .f32 := (transpose S96x1024 [1, 0] · transposes_S1024x96_S96x1024_1_0) main_v34
  let main_v45 : FVec F S9216x1024 .f32 := (fun l r => Host.dotGeneral dot_S9216x96_S96x1024_S9216x1024_1_0_0_1_n_n none l r) main_v32 main_v44
  let main_cst_7 : FVec F S_ .f32 := constant S_ .f32 0x40000000#32
  let main_v46 : FVec F S9216x1024 .f32 := broadcastInDim S9216x1024 ![] bcast_S_S9216x1024 main_cst_7
  let main_v47 : FVec F S9216x1024 .f32 := mulf main_v46 main_v45
  let main_v48 : FVec F S9216x1024 .f32 := subf main_v43 main_v47
  let main_cst_8 : FVec F S_ .f32 := constant S_ .f32 0x7F800000#32
  let main_v49 : FVec F S9216 .f32 := (fun x v => Host.reduce FloatOps.minimumf x v reducesTo_S9216x1024_S9216_d1 h_S_) main_v48 main_cst_8
  let main_v50 : FVec F S9216x1 .f32 := broadcastInDim S9216x1 ![0] bcast_S9216_S9216x1_0 main_v49
  let main_v51 : FVec F S9216x1024 .f32 := broadcastInDim S9216x1024 ![0, 1] bcast_S9216x1_S9216x1024_0_1 main_v50
  let main_v52 : FVec F S9216x1024 .f32 := subf main_v48 main_v51
  let main_cst_9 : FVec F S_ .f32 := constant S_ .f32 0x00000000#32
  let main_v53 : FVec F S9216x1024 .f32 := broadcastInDim S9216x1024 ![] bcast_S_S9216x1024 main_cst_9
  let main_v54 : IVec S9216x1024 1 := cmpf .oeq main_v52 main_v53
  let main_cst_10 : FVec F S_ .f32 := constant S_ .f32 0x33800000#32
  let main_v55 : FVec F S9216x1024 .f32 := broadcastInDim S9216x1024 ![] bcast_S_S9216x1024 main_cst_10
  let main_v56 : IVec S9216x1024 1 := cmpf .oge main_v52 main_v55
  let main_v57 : IVec S9216x1024 1 := ori main_v54 main_v56
  let main_v58 : FVec F S16x24x24x96 .f32 := (transpose S16x24x24x96 [0, 2, 3, 1] · transposes_S16x96x24x24_S16x24x24x96_0_2_3_1) main_v2
  let main_v59 : FVec F S9216x96 .f32 := shapeCast S9216x96 main_v58 shapeCasts_S16x24x24x96_S9216x96
  fn_part3 (F := F) main_arg1 main_v3 main_v30 main_v57 main_v59

def fn_part1 {F : FTy → Type} [FloatOps F] (main_arg1 : FVec F S4x1024x96 .f32) (main_v1 : FVec F S16x96x24x24 .f32) (main_v2 : FVec F S16x96x24x24 .f32) (main_v3 : FVec F S16x96x24x24 .f32) (main_v16 : FVec F S9216x1024 .f32) (main_v20 : FVec F S9216x1024 .f32) : IVec S9216x4096 1 :=
  let main_v21 : FVec F S9216x1024 .f32 := subf main_v16 main_v20
  let main_cst_2 : FVec F S_ .f32 := constant S_ .f32 0x7F800000#32
  let main_v22 : FVec F S9216 .f32 := (fun x v => Host.reduce FloatOps.minimumf x v reducesTo_S9216x1024_S9216_d1 h_S_) main_v21 main_cst_2
  let main_v23 : FVec F S9216x1 .f32 := broadcastInDim S9216x1 ![0] bcast_S9216_S9216x1_0 main_v22
  let main_v24 : FVec F S9216x1024 .f32 := broadcastInDim S9216x1024 ![0, 1] bcast_S9216x1_S9216x1024_0_1 main_v23
  let main_v25 : FVec F S9216x1024 .f32 := subf main_v21 main_v24
  let main_cst_3 : FVec F S_ .f32 := constant S_ .f32 0x00000000#32
  let main_v26 : FVec F S9216x1024 .f32 := broadcastInDim S9216x1024 ![] bcast_S_S9216x1024 main_cst_3
  let main_v27 : IVec S9216x1024 1 := cmpf .oeq main_v25 main_v26
  let main_cst_4 : FVec F S_ .f32 := constant S_ .f32 0x33800000#32
  let main_v28 : FVec F S9216x1024 .f32 := broadcastInDim S9216x1024 ![] bcast_S_S9216x1024 main_cst_4
  let main_v29 : IVec S9216x1024 1 := cmpf .oge main_v25 main_v28
  let main_v30 : IVec S9216x1024 1 := ori main_v27 main_v29
  let main_v31 : FVec F S16x24x24x96 .f32 := (transpose S16x24x24x96 [0, 2, 3, 1] · transposes_S16x96x24x24_S16x24x24x96_0_2_3_1) main_v1
  let main_v32 : FVec F S9216x96 .f32 := shapeCast S9216x96 main_v31 shapeCasts_S16x24x24x96_S9216x96
  let main_v33 : FVec F S1x1024x96 .f32 := (extractStridedSlice S1x1024x96 ![1, 0, 0] · slices_S4x1024x96_S1x1024x96_1_0_0) main_arg1
  let main_v34 : FVec F S1024x96 .f32 := shapeCast S1024x96 main_v33 shapeCasts_S1x1024x96_S1024x96
  let main_v35 : FVec F S9216x96 .f32 := mulf main_v32 main_v32
  let main_cst_5 : FVec F S_ .f32 := constant S_ .f32 0x00000000#32
  let main_v36 : FVec F S9216 .f32 := (fun x v => Host.reduceAdd x v reducesTo_S9216x96_S9216_d1 h_S_) main_v35 main_cst_5
  let main_v37 : FVec F S9216x1 .f32 := broadcastInDim S9216x1 ![0] bcast_S9216_S9216x1_0 main_v36
  let main_v38 : FVec F S1024x96 .f32 := mulf main_v34 main_v34
  let main_cst_6 : FVec F S_ .f32 := constant S_ .f32 0x00000000#32
  let main_v39 : FVec F S1024 .f32 := (fun x v => Host.reduceAdd x v reducesTo_S1024x96_S1024_d1 h_S_) main_v38 main_cst_6
  fn_part2 (F := F) main_arg1 main_v2 main_v3 main_v30 main_v32 main_v34 main_v37 main_v39

def fn {F : FTy → Type} [FloatOps F] (main_arg0 : FVec F S16x384x24x24 .f32) (main_arg1 : FVec F S4x1024x96 .f32) : IVec S9216x4096 1 :=
  let main_v0 : FVec F S16x96x24x24 .f32 := (extractStridedSlice S16x96x24x24 ![0, 0, 0, 0] · slices_S16x384x24x24_S16x96x24x24_0_0_0_0) main_arg0
  let main_v1 : FVec F S16x96x24x24 .f32 := (extractStridedSlice S16x96x24x24 ![0, 96, 0, 0] · slices_S16x384x24x24_S16x96x24x24_0_96_0_0) main_arg0
  let main_v2 : FVec F S16x96x24x24 .f32 := (extractStridedSlice S16x96x24x24 ![0, 192, 0, 0] · slices_S16x384x24x24_S16x96x24x24_0_192_0_0) main_arg0
  let main_v3 : FVec F S16x96x24x24 .f32 := (extractStridedSlice S16x96x24x24 ![0, 288, 0, 0] · slices_S16x384x24x24_S16x96x24x24_0_288_0_0) main_arg0
  let main_v4 : FVec F S16x24x24x96 .f32 := (transpose S16x24x24x96 [0, 2, 3, 1] · transposes_S16x96x24x24_S16x24x24x96_0_2_3_1) main_v0
  let main_v5 : FVec F S9216x96 .f32 := shapeCast S9216x96 main_v4 shapeCasts_S16x24x24x96_S9216x96
  let main_v6 : FVec F S1x1024x96 .f32 := (extractStridedSlice S1x1024x96 ![0, 0, 0] · slices_S4x1024x96_S1x1024x96_0_0_0) main_arg1
  let main_v7 : FVec F S1024x96 .f32 := shapeCast S1024x96 main_v6 shapeCasts_S1x1024x96_S1024x96
  let main_v8 : FVec F S9216x96 .f32 := mulf main_v5 main_v5
  let main_cst : FVec F S_ .f32 := constant S_ .f32 0x00000000#32
  let main_v9 : FVec F S9216 .f32 := (fun x v => Host.reduceAdd x v reducesTo_S9216x96_S9216_d1 h_S_) main_v8 main_cst
  let main_v10 : FVec F S9216x1 .f32 := broadcastInDim S9216x1 ![0] bcast_S9216_S9216x1_0 main_v9
  let main_v11 : FVec F S1024x96 .f32 := mulf main_v7 main_v7
  let main_cst_0 : FVec F S_ .f32 := constant S_ .f32 0x00000000#32
  let main_v12 : FVec F S1024 .f32 := (fun x v => Host.reduceAdd x v reducesTo_S1024x96_S1024_d1 h_S_) main_v11 main_cst_0
  let main_v13 : FVec F S1x1024 .f32 := broadcastInDim S1x1024 ![1] bcast_S1024_S1x1024_1 main_v12
  let main_v14 : FVec F S9216x1024 .f32 := broadcastInDim S9216x1024 ![0, 1] bcast_S9216x1_S9216x1024_0_1 main_v10
  let main_v15 : FVec F S9216x1024 .f32 := broadcastInDim S9216x1024 ![0, 1] bcast_S1x1024_S9216x1024_0_1 main_v13
  let main_v16 : FVec F S9216x1024 .f32 := addf main_v14 main_v15
  let main_v17 : FVec F S96x1024 .f32 := (transpose S96x1024 [1, 0] · transposes_S1024x96_S96x1024_1_0) main_v7
  let main_v18 : FVec F S9216x1024 .f32 := (fun l r => Host.dotGeneral dot_S9216x96_S96x1024_S9216x1024_1_0_0_1_n_n none l r) main_v5 main_v17
  let main_cst_1 : FVec F S_ .f32 := constant S_ .f32 0x40000000#32
  let main_v19 : FVec F S9216x1024 .f32 := broadcastInDim S9216x1024 ![] bcast_S_S9216x1024 main_cst_1
  let main_v20 : FVec F S9216x1024 .f32 := mulf main_v19 main_v18
  fn_part1 (F := F) main_arg1 main_v1 main_v2 main_v3 main_v16 main_v20
-- ==== Kernel.lean ====
abbrev S16x384x24x24 : Shape := ⟨4, ![16, 384, 24, 24]⟩
abbrev S4x1024x96 : Shape := ⟨3, ![4, 1024, 96]⟩
abbrev S16x4x96x576 : Shape := ⟨4, ![16, 4, 96, 576]⟩
abbrev S1x1024 : Shape := ⟨2, ![1, 1024]⟩
abbrev S16x576x4096 : Shape := ⟨3, ![16, 576, 4096]⟩
abbrev S4x8x1x1 : Shape := ⟨4, ![4, 8, 1, 1]⟩
abbrev S9216x4096 : Shape := ⟨2, ![9216, 4096]⟩
abbrev S_ : Shape := ⟨0, ![]⟩
abbrev S2x1x96x576 : Shape := ⟨4, ![2, 1, 96, 576]⟩
abbrev S1x1024x96 : Shape := ⟨3, ![1, 1024, 96]⟩
abbrev S2x576x1024 : Shape := ⟨3, ![2, 576, 1024]⟩
abbrev S1x1x1x1 : Shape := ⟨4, ![1, 1, 1, 1]⟩
abbrev S2x96x576 : Shape := ⟨3, ![2, 96, 576]⟩
abbrev S1024x96 : Shape := ⟨2, ![1024, 96]⟩
abbrev S2x576x96 : Shape := ⟨3, ![2, 576, 96]⟩
abbrev S1152x96 : Shape := ⟨2, ![1152, 96]⟩
abbrev S1152 : Shape := ⟨1, ![1152]⟩
abbrev S1152x1 : Shape := ⟨2, ![1152, 1]⟩
abbrev S1024 : Shape := ⟨1, ![1024]⟩
abbrev S1024x1 : Shape := ⟨2, ![1024, 1]⟩
abbrev S1152x1024 : Shape := ⟨2, ![1152, 1024]⟩
abbrev S1x1152x1 : Shape := ⟨3, ![1, 1152, 1]⟩
abbrev S1 : Shape := ⟨1, ![1]⟩
abbrev S1x1x1 : Shape := ⟨3, ![1, 1, 1]⟩

abbrev nBuf : Space → Nat
  | .hbm => 11
  | .vmem => 9
  | .smem => 2
  | _ => 0

abbrev bufTy : (tb : Table) → Fin (tcTables nBuf tb) → BufTy
  | .hbm, ⟨0, _⟩ => ⟨S16x384x24x24, .f32⟩
  | .hbm, ⟨1, _⟩ => ⟨S4x1024x96, .f32⟩
  | .hbm, ⟨2, _⟩ => ⟨S16x4x96x576, .f32⟩
  | .hbm, ⟨3, _⟩ => ⟨S1x1024, .f32⟩
  | .hbm, ⟨4, _⟩ => ⟨S16x4x96x576, .f32⟩
  | .hbm, ⟨5, _⟩ => ⟨S16x576x4096, .f32⟩
  | .hbm, ⟨6, _⟩ => ⟨S4x8x1x1, .f32⟩
  | .hbm, ⟨7, _⟩ => ⟨S16x384x24x24, .f32⟩
  | .hbm, ⟨8, _⟩ => ⟨S9216x4096, .f32⟩
  | .hbm, ⟨9, _⟩ => ⟨S_, .f32⟩
  | .hbm, ⟨10, _⟩ => ⟨S_, .f32⟩
  | .local _ .vmem, ⟨0, _⟩ => ⟨S2x1x96x576, .f32⟩
  | .local _ .vmem, ⟨1, _⟩ => ⟨S2x1x96x576, .f32⟩
  | .local _ .vmem, ⟨2, _⟩ => ⟨S1x1024x96, .f32⟩
  | .local _ .vmem, ⟨3, _⟩ => ⟨S1x1024x96, .f32⟩
  | .local _ .vmem, ⟨4, _⟩ => ⟨S1x1024, .f32⟩
  | .local _ .vmem, ⟨5, _⟩ => ⟨S2x1x96x576, .f32⟩
  | .local _ .vmem, ⟨6, _⟩ => ⟨S2x1x96x576, .f32⟩
  | .local _ .vmem, ⟨7, _⟩ => ⟨S2x576x1024, .f32⟩
  | .local _ .vmem, ⟨8, _⟩ => ⟨S2x576x1024, .f32⟩
  | .local _ .smem, ⟨0, _⟩ => ⟨S1x1x1x1, .f32⟩
  | .local _ .smem, ⟨1, _⟩ => ⟨S1x1x1x1, .f32⟩
  | _, _ => ⟨S16x384x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_v0_0 : Ref sig .tc := ⟨.hbm, 7, rfl⟩
abbrev main_v0_2 : Ref sig .tc := ⟨.hbm, 8, rfl⟩
abbrev main_call0_cst : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.smem, 0, rfl⟩
abbrev cc0_stg5_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1x96x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x96x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x576x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .smem S1x1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "loss_scale" => some ((5 / 14155776 : ℝ) : EReal)
  | "neg_two_over_ln2" => some ((-(2 * (Real.log 2)⁻¹) : ℝ) : EReal)
  | _ => none
-- ==== ReferenceIdeal.lean ====
abbrev S16x384x24x24 : Shape := ⟨4, ![16, 384, 24, 24]⟩
abbrev S4x1024x96 : Shape := ⟨3, ![4, 1024, 96]⟩
abbrev S16x96x24x24 : Shape := ⟨4, ![16, 96, 24, 24]⟩
abbrev S1x1024x96 : Shape := ⟨3, ![1, 1024, 96]⟩
abbrev S1024x96 : Shape := ⟨2, ![1024, 96]⟩
abbrev S16x24x24x96 : Shape := ⟨4, ![16, 24, 24, 96]⟩
abbrev S9216x96 : Shape := ⟨2, ![9216, 96]⟩
abbrev S_ : Shape := ⟨0, ![]⟩
abbrev S9216 : Shape := ⟨1, ![9216]⟩
abbrev S9216x1 : Shape := ⟨2, ![9216, 1]⟩
abbrev S1024 : Shape := ⟨1, ![1024]⟩
abbrev S1x1024 : Shape := ⟨2, ![1, 1024]⟩
abbrev S9216x1024 : Shape := ⟨2, ![9216, 1024]⟩
abbrev S96x1024 : Shape := ⟨2, ![96, 1024]⟩
abbrev S1 : Shape := ⟨1, ![1]⟩
abbrev S1x1 : Shape := ⟨2, ![1, 1]⟩
abbrev S9216x4096 : Shape := ⟨2, ![9216, 4096]⟩

abbrev nBuf : Space → Nat
  | .hbm => 387
  | .vmem => 0
  | .smem => 0
  | _ => 0

abbrev hbmTy0_0 (i : Nat) : BufTy := match i % 128 with
  | 0 => ⟨S16x384x24x24, .f32⟩
  | 1 => ⟨S4x1024x96, .f32⟩
  | 2 => ⟨S16x96x24x24, .f32⟩
  | 3 => ⟨S16x96x24x24, .f32⟩
  | 4 => ⟨S16x96x24x24, .f32⟩
  | 5 => ⟨S16x96x24x24, .f32⟩
  | 6 => ⟨S1x1024x96, .f32⟩
  | 7 => ⟨S1024x96, .f32⟩
  | 8 => ⟨S16x24x24x96, .f32⟩
  | 9 => ⟨S9216x96, .f32⟩
  | 10 => ⟨S9216x96, .f32⟩
  | 11 => ⟨S_, .f32⟩
  | 12 => ⟨S9216, .f32⟩
  | 13 => ⟨S9216x1, .f32⟩
  | 14 => ⟨S1024x96, .f32⟩
  | 15 => ⟨S_, .f32⟩
  | 16 => ⟨S1024, .f32⟩
  | 17 => ⟨S1x1024, .f32⟩
  | 18 => ⟨S9216x1024, .f32⟩
  | 19 => ⟨S9216x1024, .f32⟩
  | 20 => ⟨S9216x1024, .f32⟩
  | 21 => ⟨S96x1024, .f32⟩
  | 22 => ⟨S9216x1024, .f32⟩
  | 23 => ⟨S_, .f32⟩
  | 24 => ⟨S9216x1024, .f32⟩
  | 25 => ⟨S9216x1024, .f32⟩
  | 26 => ⟨S9216x1024, .f32⟩
  | 27 => ⟨S_, .f32⟩
  | 28 => ⟨S9216, .f32⟩
  | 29 => ⟨S9216x1, .f32⟩
  | 30 => ⟨S9216x1024, .f32⟩
  | 31 => ⟨S9216x1024, .i1⟩
  | 32 => ⟨S9216x1024, .i32⟩
  | 33 => ⟨S_, .i32⟩
  | 34 => ⟨S_, .i32⟩
  | 35 => ⟨S9216x1024, .i32⟩
  | 36 => ⟨S9216x1024, .i32⟩
  | 37 => ⟨S_, .i32⟩
  | 38 => ⟨S9216, .i32⟩
  | 39 => ⟨S9216x1024, .f32⟩
  | 40 => ⟨S_, .f32⟩
  | 41 => ⟨S9216x1024, .f32⟩
  | 42 => ⟨S9216x1024, .f32⟩
  | 43 => ⟨S_, .f32⟩
  | 44 => ⟨S9216, .f32⟩
  | 45 => ⟨S_, .f32⟩
  | 46 => ⟨S9216, .f32⟩
  | 47 => ⟨S9216, .f32⟩
  | 48 => ⟨S9216x1, .f32⟩
  | 49 => ⟨S9216x1024, .f32⟩
  | 50 => ⟨S9216x1024, .f32⟩
  | 51 => ⟨S9216x1024, .f32⟩
  | 52 => ⟨S_, .f32⟩
  | 53 => ⟨S9216, .f32⟩
  | 54 => ⟨S9216x1, .f32⟩
  | 55 => ⟨S9216x1024, .f32⟩
  | 56 => ⟨S9216x1024, .f32⟩
  | 57 => ⟨S_, .i32⟩
  | 58 => ⟨S9216, .i32⟩
  | 59 => ⟨S9216, .i1⟩
  | 60 => ⟨S_, .i32⟩
  | 61 => ⟨S9216, .i32⟩
  | 62 => ⟨S9216, .i32⟩
  | 63 => ⟨S9216, .i32⟩
  | 64 => ⟨S9216x1, .i32⟩
  | 65 => ⟨S1, .i32⟩
  | 66 => ⟨S_, .i32⟩
  | 67 => ⟨S9216x1, .i32⟩
  | 68 => ⟨S9216x1, .i1⟩
  | 69 => ⟨S1x1, .i32⟩
  | 70 => ⟨S9216x1, .i32⟩
  | 71 => ⟨S9216x1, .i1⟩
  | 72 => ⟨S9216x1, .i1⟩
  | 73 => ⟨S_, .i1⟩
  | 74 => ⟨S9216, .i1⟩
  | 75 => ⟨S9216x96, .f32⟩
  | 76 => ⟨S9216x96, .i1⟩
  | 77 => ⟨S_, .f32⟩
  | 78 => ⟨S9216x96, .f32⟩
  | 79 => ⟨S9216x96, .f32⟩
  | 80 => ⟨S9216x96, .f32⟩
  | 81 => ⟨S9216x96, .f32⟩
  | 82 => ⟨S_, .f32⟩
  | 83 => ⟨S_, .f32⟩
  | 84 => ⟨S_, .f32⟩
  | 85 => ⟨S_, .f32⟩
  | 86 => ⟨S9216x96, .f32⟩
  | 87 => ⟨S9216x96, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S9216x96, .f32⟩
  | 96 => ⟨S9216x96, .f32⟩
  | 97 => ⟨S16x24x24x96, .f32⟩
  | 98 => ⟨S16x96x24x24, .f32⟩
  | 99 => ⟨S_, .f32⟩
  | 100 => ⟨S_, .f32⟩
  | 101 => ⟨S1x1024x96, .f32⟩
  | 102 => ⟨S1024x96, .f32⟩
  | 103 => ⟨S16x24x24x96, .f32⟩
  | 104 => ⟨S9216x96, .f32⟩
  | 105 => ⟨S9216x96, .f32⟩
  | 106 => ⟨S_, .f32⟩
  | 107 => ⟨S9216, .f32⟩
  | 108 => ⟨S9216x1, .f32⟩
  | 109 => ⟨S1024x96, .f32⟩
  | 110 => ⟨S_, .f32⟩
  | 111 => ⟨S1024, .f32⟩
  | 112 => ⟨S1x1024, .f32⟩
  | 113 => ⟨S9216x1024, .f32⟩
  | 114 => ⟨S9216x1024, .f32⟩
  | 115 => ⟨S9216x1024, .f32⟩
  | 116 => ⟨S96x1024, .f32⟩
  | 117 => ⟨S9216x1024, .f32⟩
  | 118 => ⟨S_, .f32⟩
  | 119 => ⟨S9216x1024, .f32⟩
  | 120 => ⟨S9216x1024, .f32⟩
  | 121 => ⟨S9216x1024, .f32⟩
  | 122 => ⟨S_, .f32⟩
  | 123 => ⟨S9216, .f32⟩
  | 124 => ⟨S9216x1, .f32⟩
  | 125 => ⟨S9216x1024, .f32⟩
  | 126 => ⟨S9216x1024, .i1⟩
  | 127 => ⟨S9216x1024, .i32⟩
  | _ => ⟨S16x384x24x24, .f32⟩

abbrev hbmTy0_1 (i : Nat) : BufTy := match i % 128 with
  | 0 => ⟨S_, .i32⟩
  | 1 => ⟨S_, .i32⟩
  | 2 => ⟨S9216x1024, .i32⟩
  | 3 => ⟨S9216x1024, .i32⟩
  | 4 => ⟨S_, .i32⟩
  | 5 => ⟨S9216, .i32⟩
  | 6 => ⟨S9216x1024, .f32⟩
  | 7 => ⟨S_, .f32⟩
  | 8 => ⟨S9216x1024, .f32⟩
  | 9 => ⟨S9216x1024, .f32⟩
  | 10 => ⟨S_, .f32⟩
  | 11 => ⟨S9216, .f32⟩
  | 12 => ⟨S_, .f32⟩
  | 13 => ⟨S9216, .f32⟩
  | 14 => ⟨S9216, .f32⟩
  | 15 => ⟨S9216x1, .f32⟩
  | 16 => ⟨S9216x1024, .f32⟩
  | 17 => ⟨S9216x1024, .f32⟩
  | 18 => ⟨S9216x1024, .f32⟩
  | 19 => ⟨S_, .f32⟩
  | 20 => ⟨S9216, .f32⟩
  | 21 => ⟨S9216x1, .f32⟩
  | 22 => ⟨S9216x1024, .f32⟩
  | 23 => ⟨S9216x1024, .f32⟩
  | 24 => ⟨S_, .i32⟩
  | 25 => ⟨S9216, .i32⟩
  | 26 => ⟨S9216, .i1⟩
  | 27 => ⟨S_, .i32⟩
  | 28 => ⟨S9216, .i32⟩
  | 29 => ⟨S9216, .i32⟩
  | 30 => ⟨S9216, .i32⟩
  | 31 => ⟨S9216x1, .i32⟩
  | 32 => ⟨S1, .i32⟩
  | 33 => ⟨S_, .i32⟩
  | 34 => ⟨S9216x1, .i32⟩
  | 35 => ⟨S9216x1, .i1⟩
  | 36 => ⟨S1x1, .i32⟩
  | 37 => ⟨S9216x1, .i32⟩
  | 38 => ⟨S9216x1, .i1⟩
  | 39 => ⟨S9216x1, .i1⟩
  | 40 => ⟨S_, .i1⟩
  | 41 => ⟨S9216, .i1⟩
  | 42 => ⟨S9216x96, .f32⟩
  | 43 => ⟨S9216x96, .i1⟩
  | 44 => ⟨S_, .f32⟩
  | 45 => ⟨S9216x96, .f32⟩
  | 46 => ⟨S9216x96, .f32⟩
  | 47 => ⟨S9216x96, .f32⟩
  | 48 => ⟨S9216x96, .f32⟩
  | 49 => ⟨S_, .f32⟩
  | 50 => ⟨S_, .f32⟩
  | 51 => ⟨S_, .f32⟩
  | 52 => ⟨S_, .f32⟩
  | 53 => ⟨S9216x96, .f32⟩
  | 54 => ⟨S9216x96, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S9216x96, .f32⟩
  | 63 => ⟨S9216x96, .f32⟩
  | 64 => ⟨S16x24x24x96, .f32⟩
  | 65 => ⟨S16x96x24x24, .f32⟩
  | 66 => ⟨S_, .f32⟩
  | 67 => ⟨S1x1024x96, .f32⟩
  | 68 => ⟨S1024x96, .f32⟩
  | 69 => ⟨S16x24x24x96, .f32⟩
  | 70 => ⟨S9216x96, .f32⟩
  | 71 => ⟨S9216x96, .f32⟩
  | 72 => ⟨S_, .f32⟩
  | 73 => ⟨S9216, .f32⟩
  | 74 => ⟨S9216x1, .f32⟩
  | 75 => ⟨S1024x96, .f32⟩
  | 76 => ⟨S_, .f32⟩
  | 77 => ⟨S1024, .f32⟩
  | 78 => ⟨S1x1024, .f32⟩
  | 79 => ⟨S9216x1024, .f32⟩
  | 80 => ⟨S9216x1024, .f32⟩
  | 81 => ⟨S9216x1024, .f32⟩
  | 82 => ⟨S96x1024, .f32⟩
  | 83 => ⟨S9216x1024, .f32⟩
  | 84 => ⟨S_, .f32⟩
  | 85 => ⟨S9216x1024, .f32⟩
  | 86 => ⟨S9216x1024, .f32⟩
  | 87 => ⟨S9216x1024, .f32⟩
  | 88 => ⟨S_, .f32⟩
  | 89 => ⟨S9216, .f32⟩
  | 90 => ⟨S9216x1, .f32⟩
  | 91 => ⟨S9216x1024, .f32⟩
  | 92 => ⟨S9216x1024, .i1⟩
  | 93 => ⟨S9216x1024, .i32⟩
  | 94 => ⟨S_, .i32⟩
  | 95 => ⟨S_, .i32⟩
  | 96 => ⟨S9216x1024, .i32⟩
  | 97 => ⟨S9216x1024, .i32⟩
  | 98 => ⟨S_, .i32⟩
  | 99 => ⟨S9216, .i32⟩
  | 100 => ⟨S9216x1024, .f32⟩
  | 101 => ⟨S_, .f32⟩
  | 102 => ⟨S9216x1024, .f32⟩
  | 103 => ⟨S9216x1024, .f32⟩
  | 104 => ⟨S_, .f32⟩
  | 105 => ⟨S9216, .f32⟩
  | 106 => ⟨S_, .f32⟩
  | 107 => ⟨S9216, .f32⟩
  | 108 => ⟨S9216, .f32⟩
  | 109 => ⟨S9216x1, .f32⟩
  | 110 => ⟨S9216x1024, .f32⟩
  | 111 => ⟨S9216x1024, .f32⟩
  | 112 => ⟨S9216x1024, .f32⟩
  | 113 => ⟨S_, .f32⟩
  | 114 => ⟨S9216, .f32⟩
  | 115 => ⟨S9216x1, .f32⟩
  | 116 => ⟨S9216x1024, .f32⟩
  | 117 => ⟨S9216x1024, .f32⟩
  | 118 => ⟨S_, .i32⟩
  | 119 => ⟨S9216, .i32⟩
  | 120 => ⟨S9216, .i1⟩
  | 121 => ⟨S_, .i32⟩
  | 122 => ⟨S9216, .i32⟩
  | 123 => ⟨S9216, .i32⟩
  | 124 => ⟨S9216, .i32⟩
  | 125 => ⟨S9216x1, .i32⟩
  | 126 => ⟨S1, .i32⟩
  | 127 => ⟨S_, .i32⟩
  | _ => ⟨S16x384x24x24, .f32⟩

abbrev hbmTy0_2 (i : Nat) : BufTy := match i % 128 with
  | 0 => ⟨S9216x1, .i32⟩
  | 1 => ⟨S9216x1, .i1⟩
  | 2 => ⟨S1x1, .i32⟩
  | 3 => ⟨S9216x1, .i32⟩
  | 4 => ⟨S9216x1, .i1⟩
  | 5 => ⟨S9216x1, .i1⟩
  | 6 => ⟨S_, .i1⟩
  | 7 => ⟨S9216, .i1⟩
  | 8 => ⟨S9216x96, .f32⟩
  | 9 => ⟨S9216x96, .i1⟩
  | 10 => ⟨S_, .f32⟩
  | 11 => ⟨S9216x96, .f32⟩
  | 12 => ⟨S9216x96, .f32⟩
  | 13 => ⟨S9216x96, .f32⟩
  | 14 => ⟨S9216x96, .f32⟩
  | 15 => ⟨S_, .f32⟩
  | 16 => ⟨S_, .f32⟩
  | 17 => ⟨S_, .f32⟩
  | 18 => ⟨S_, .f32⟩
  | 19 => ⟨S9216x96, .f32⟩
  | 20 => ⟨S9216x96, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S9216x96, .f32⟩
  | 29 => ⟨S9216x96, .f32⟩
  | 30 => ⟨S16x24x24x96, .f32⟩
  | 31 => ⟨S16x96x24x24, .f32⟩
  | 32 => ⟨S_, .f32⟩
  | 33 => ⟨S1x1024x96, .f32⟩
  | 34 => ⟨S1024x96, .f32⟩
  | 35 => ⟨S16x24x24x96, .f32⟩
  | 36 => ⟨S9216x96, .f32⟩
  | 37 => ⟨S9216x96, .f32⟩
  | 38 => ⟨S_, .f32⟩
  | 39 => ⟨S9216, .f32⟩
  | 40 => ⟨S9216x1, .f32⟩
  | 41 => ⟨S1024x96, .f32⟩
  | 42 => ⟨S_, .f32⟩
  | 43 => ⟨S1024, .f32⟩
  | 44 => ⟨S1x1024, .f32⟩
  | 45 => ⟨S9216x1024, .f32⟩
  | 46 => ⟨S9216x1024, .f32⟩
  | 47 => ⟨S9216x1024, .f32⟩
  | 48 => ⟨S96x1024, .f32⟩
  | 49 => ⟨S9216x1024, .f32⟩
  | 50 => ⟨S_, .f32⟩
  | 51 => ⟨S9216x1024, .f32⟩
  | 52 => ⟨S9216x1024, .f32⟩
  | 53 => ⟨S9216x1024, .f32⟩
  | 54 => ⟨S_, .f32⟩
  | 55 => ⟨S9216, .f32⟩
  | 56 => ⟨S9216x1, .f32⟩
  | 57 => ⟨S9216x1024, .f32⟩
  | 58 => ⟨S9216x1024, .i1⟩
  | 59 => ⟨S9216x1024, .i32⟩
  | 60 => ⟨S_, .i32⟩
  | 61 => ⟨S_, .i32⟩
  | 62 => ⟨S9216x1024, .i32⟩
  | 63 => ⟨S9216x1024, .i32⟩
  | 64 => ⟨S_, .i32⟩
  | 65 => ⟨S9216, .i32⟩
  | 66 => ⟨S9216x1024, .f32⟩
  | 67 => ⟨S_, .f32⟩
  | 68 => ⟨S9216x1024, .f32⟩
  | 69 => ⟨S9216x1024, .f32⟩
  | 70 => ⟨S_, .f32⟩
  | 71 => ⟨S9216, .f32⟩
  | 72 => ⟨S_, .f32⟩
  | 73 => ⟨S9216, .f32⟩
  | 74 => ⟨S9216, .f32⟩
  | 75 => ⟨S9216x1, .f32⟩
  | 76 => ⟨S9216x1024, .f32⟩
  | 77 => ⟨S9216x1024, .f32⟩
  | 78 => ⟨S9216x1024, .f32⟩
  | 79 => ⟨S_, .f32⟩
  | 80 => ⟨S9216, .f32⟩
  | 81 => ⟨S9216x1, .f32⟩
  | 82 => ⟨S9216x1024, .f32⟩
  | 83 => ⟨S9216x1024, .f32⟩
  | 84 => ⟨S_, .i32⟩
  | 85 => ⟨S9216, .i32⟩
  | 86 => ⟨S9216, .i1⟩
  | 87 => ⟨S_, .i32⟩
  | 88 => ⟨S9216, .i32⟩
  | 89 => ⟨S9216, .i32⟩
  | 90 => ⟨S9216, .i32⟩
  | 91 => ⟨S9216x1, .i32⟩
  | 92 => ⟨S1, .i32⟩
  | 93 => ⟨S_, .i32⟩
  | 94 => ⟨S9216x1, .i32⟩
  | 95 => ⟨S9216x1, .i1⟩
  | 96 => ⟨S1x1, .i32⟩
  | 97 => ⟨S9216x1, .i32⟩
  | 98 => ⟨S9216x1, .i1⟩
  | 99 => ⟨S9216x1, .i1⟩
  | 100 => ⟨S_, .i1⟩
  | 101 => ⟨S9216, .i1⟩
  | 102 => ⟨S9216x96, .f32⟩
  | 103 => ⟨S9216x96, .i1⟩
  | 104 => ⟨S_, .f32⟩
  | 105 => ⟨S9216x96, .f32⟩
  | 106 => ⟨S9216x96, .f32⟩
  | 107 => ⟨S9216x96, .f32⟩
  | 108 => ⟨S9216x96, .f32⟩
  | 109 => ⟨S_, .f32⟩
  | 110 => ⟨S_, .f32⟩
  | 111 => ⟨S_, .f32⟩
  | 112 => ⟨S_, .f32⟩
  | 113 => ⟨S9216x96, .f32⟩
  | 114 => ⟨S9216x96, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S9216x96, .f32⟩
  | 123 => ⟨S9216x96, .f32⟩
  | 124 => ⟨S16x24x24x96, .f32⟩
  | 125 => ⟨S16x96x24x24, .f32⟩
  | 126 => ⟨S_, .f32⟩
  | 127 => ⟨S16x384x24x24, .f32⟩
  | _ => ⟨S16x384x24x24, .f32⟩

abbrev hbmTy0_3 (i : Nat) : BufTy := match i % 128 with
  | 0 => ⟨S_, .f32⟩
  | 1 => ⟨S_, .f32⟩
  | 2 => ⟨S9216x4096, .f32⟩
  | _ => ⟨S16x384x24x24, .f32⟩

abbrev hbmTy (i : Nat) : BufTy := match i / 128 with
  | 0 => hbmTy0_0 i
  | 1 => hbmTy0_1 i
  | 2 => hbmTy0_2 i
  | 3 => hbmTy0_3 i
  | _ => ⟨S16x384x24x24, .f32⟩

abbrev bufTy : (tb : Table) → Fin (tcTables nBuf tb) → BufTy
  | .hbm, ⟨i, _⟩ => hbmTy i
  | _, _ => ⟨S16x384x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_8 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_cst_11 : Ref sig .tc := ⟨.hbm, 90, rfl⟩
abbrev main_v51 : Ref sig .tc := ⟨.hbm, 91, rfl⟩
abbrev main_cst_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_14 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_15 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_16 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_17 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_18 : Ref sig .tc := ⟨.hbm, 128, rfl⟩
abbrev main_call2_v0 : Ref sig .tc := ⟨.hbm, 129, rfl⟩
abbrev main_call2_v1 : Ref sig .tc := ⟨.hbm, 130, rfl⟩
abbrev main_v82 : Ref sig .tc := ⟨.hbm, 131, rfl⟩
abbrev main_c_19 : Ref sig .tc := ⟨.hbm, 132, rfl⟩
abbrev main_v83 : Ref sig .tc := ⟨.hbm, 133, rfl⟩
abbrev main_v84 : Ref sig .tc := ⟨.hbm, 134, rfl⟩
abbrev main_cst_20 : Ref sig .tc := ⟨.hbm, 135, rfl⟩
abbrev main_v85 : Ref sig .tc := ⟨.hbm, 136, rfl⟩
abbrev main_v86 : Ref sig .tc := ⟨.hbm, 137, rfl⟩
abbrev main_cst_21 : Ref sig .tc := ⟨.hbm, 138, rfl⟩
abbrev main_v87 : Ref sig .tc := ⟨.hbm, 139, rfl⟩
abbrev main_cst_22 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_23 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_c_1 : Ref sig .tc := ⟨.hbm, 160, rfl⟩
abbrev main_call3_c_2 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_c_3 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_call3_cst : Ref sig .tc := ⟨.hbm, 172, rfl⟩
abbrev main_call3_v15 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_24 : Ref sig .tc := ⟨.hbm, 177, rfl⟩
abbrev main_v101 : Ref sig .tc := ⟨.hbm, 178, rfl⟩
abbrev main_cst_25 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_cst_26 : Ref sig .tc := ⟨.hbm, 183, rfl⟩
abbrev main_v105 : Ref sig .tc := ⟨.hbm, 184, rfl⟩
abbrev main_cst_27 : Ref sig .tc := ⟨.hbm, 185, rfl⟩
abbrev main_v106 : Ref sig .tc := ⟨.hbm, 186, rfl⟩
abbrev main_cst_28 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_cst_29 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_cst_30 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_cst_31 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_cst_32 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_c_33 : Ref sig .tc := ⟨.hbm, 222, rfl⟩
abbrev main_call4_v0 : Ref sig .tc := ⟨.hbm, 223, rfl⟩
abbrev main_call4_v1 : Ref sig .tc := ⟨.hbm, 224, rfl⟩
abbrev main_v137 : Ref sig .tc := ⟨.hbm, 225, rfl⟩
abbrev main_c_34 : Ref sig .tc := ⟨.hbm, 226, rfl⟩
abbrev main_v138 : Ref sig .tc := ⟨.hbm, 227, rfl⟩
abbrev main_v139 : Ref sig .tc := ⟨.hbm, 228, rfl⟩
abbrev main_cst_35 : Ref sig .tc := ⟨.hbm, 229, rfl⟩
abbrev main_v140 : Ref sig .tc := ⟨.hbm, 230, rfl⟩
abbrev main_v141 : Ref sig .tc := ⟨.hbm, 231, rfl⟩
abbrev main_cst_36 : Ref sig .tc := ⟨.hbm, 232, rfl⟩
abbrev main_v142 : Ref sig .tc := ⟨.hbm, 233, rfl⟩
abbrev main_cst_37 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_38 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_call5_c : Ref sig .tc := ⟨.hbm, 246, rfl⟩
abbrev main_call5_v0 : Ref sig .tc := ⟨.hbm, 247, rfl⟩
abbrev main_call5_v1 : Ref sig .tc := ⟨.hbm, 248, rfl⟩
abbrev main_call5_c_0 : Ref sig .tc := ⟨.hbm, 249, rfl⟩
abbrev main_call5_v2 : Ref sig .tc := ⟨.hbm, 250, rfl⟩
abbrev main_call5_v3 : Ref sig .tc := ⟨.hbm, 251, rfl⟩
abbrev main_call5_v4 : Ref sig .tc := ⟨.hbm, 252, rfl⟩
abbrev main_call5_v5 : Ref sig .tc := ⟨.hbm, 253, rfl⟩
abbrev main_call5_c_1 : Ref sig .tc := ⟨.hbm, 254, rfl⟩
abbrev main_call5_c_2 : Ref sig .tc := ⟨.hbm, 255, rfl⟩
abbrev main_call5_v6 : Ref sig .tc := ⟨.hbm, 256, rfl⟩
abbrev main_call5_v7 : Ref sig .tc := ⟨.hbm, 257, rfl⟩
abbrev main_call5_v8 : Ref sig .tc := ⟨.hbm, 258, rfl⟩
abbrev main_call5_v9 : Ref sig .tc := ⟨.hbm, 259, rfl⟩
abbrev main_call5_v10 : Ref sig .tc := ⟨.hbm, 260, rfl⟩
abbrev main_call5_v11 : Ref sig .tc := ⟨.hbm, 261, rfl⟩
abbrev main_call5_c_3 : Ref sig .tc := ⟨.hbm, 262, rfl⟩
abbrev main_call5_v12 : Ref sig .tc := ⟨.hbm, 263, rfl⟩
abbrev main_call5_v13 : Ref sig .tc := ⟨.hbm, 264, rfl⟩
abbrev main_call5_v14 : Ref sig .tc := ⟨.hbm, 265, rfl⟩
abbrev main_call5_cst : Ref sig .tc := ⟨.hbm, 266, rfl⟩
abbrev main_call5_v15 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_cst_39 : Ref sig .tc := ⟨.hbm, 271, rfl⟩
abbrev main_v156 : Ref sig .tc := ⟨.hbm, 272, rfl⟩
abbrev main_cst_40 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_cst_41 : Ref sig .tc := ⟨.hbm, 277, rfl⟩
abbrev main_v160 : Ref sig .tc := ⟨.hbm, 278, rfl⟩
abbrev main_cst_42 : Ref sig .tc := ⟨.hbm, 279, rfl⟩
abbrev main_v161 : Ref sig .tc := ⟨.hbm, 280, rfl⟩
abbrev main_cst_43 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_cst_44 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_cst_45 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_46 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_47 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_c_48 : Ref sig .tc := ⟨.hbm, 316, rfl⟩
abbrev main_call6_v0 : Ref sig .tc := ⟨.hbm, 317, rfl⟩
abbrev main_call6_v1 : Ref sig .tc := ⟨.hbm, 318, rfl⟩
abbrev main_v192 : Ref sig .tc := ⟨.hbm, 319, rfl⟩
abbrev main_c_49 : Ref sig .tc := ⟨.hbm, 320, rfl⟩
abbrev main_v193 : Ref sig .tc := ⟨.hbm, 321, rfl⟩
abbrev main_v194 : Ref sig .tc := ⟨.hbm, 322, rfl⟩
abbrev main_cst_50 : Ref sig .tc := ⟨.hbm, 323, rfl⟩
abbrev main_v195 : Ref sig .tc := ⟨.hbm, 324, rfl⟩
abbrev main_v196 : Ref sig .tc := ⟨.hbm, 325, rfl⟩
abbrev main_cst_51 : Ref sig .tc := ⟨.hbm, 326, rfl⟩
abbrev main_v197 : Ref sig .tc := ⟨.hbm, 327, rfl⟩
abbrev main_cst_52 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_cst_53 : Ref sig .tc := ⟨.hbm, 335, rfl⟩
abbrev main_v204 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_call7_c : Ref sig .tc := ⟨.hbm, 340, rfl⟩
abbrev main_call7_v0 : Ref sig .tc := ⟨.hbm, 341, rfl⟩
abbrev main_call7_v1 : Ref sig .tc := ⟨.hbm, 342, rfl⟩
abbrev main_call7_c_0 : Ref sig .tc := ⟨.hbm, 343, rfl⟩
abbrev main_call7_v2 : Ref sig .tc := ⟨.hbm, 344, rfl⟩
abbrev main_call7_v3 : Ref sig .tc := ⟨.hbm, 345, rfl⟩
abbrev main_call7_v4 : Ref sig .tc := ⟨.hbm, 346, rfl⟩
abbrev main_call7_v5 : Ref sig .tc := ⟨.hbm, 347, rfl⟩
abbrev main_call7_c_1 : Ref sig .tc := ⟨.hbm, 348, rfl⟩
abbrev main_call7_c_2 : Ref sig .tc := ⟨.hbm, 349, rfl⟩
abbrev main_call7_v6 : Ref sig .tc := ⟨.hbm, 350, rfl⟩
abbrev main_call7_v7 : Ref sig .tc := ⟨.hbm, 351, rfl⟩
abbrev main_call7_v8 : Ref sig .tc := ⟨.hbm, 352, rfl⟩
abbrev main_call7_v9 : Ref sig .tc := ⟨.hbm, 353, rfl⟩
abbrev main_call7_v10 : Ref sig .tc := ⟨.hbm, 354, rfl⟩
abbrev main_call7_v11 : Ref sig .tc := ⟨.hbm, 355, rfl⟩
abbrev main_call7_c_3 : Ref sig .tc := ⟨.hbm, 356, rfl⟩
abbrev main_call7_v12 : Ref sig .tc := ⟨.hbm, 357, rfl⟩
abbrev main_call7_v13 : Ref sig .tc := ⟨.hbm, 358, rfl⟩
abbrev main_call7_v14 : Ref sig .tc := ⟨.hbm, 359, rfl⟩
abbrev main_call7_cst : Ref sig .tc := ⟨.hbm, 360, rfl⟩
abbrev main_call7_v15 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_cst_54 : Ref sig .tc := ⟨.hbm, 365, rfl⟩
abbrev main_v211 : Ref sig .tc := ⟨.hbm, 366, rfl⟩
abbrev main_cst_55 : Ref sig .tc := ⟨.hbm, 367, rfl⟩
abbrev main_v212 : Ref sig .tc := ⟨.hbm, 368, rfl⟩
abbrev main_v213 : Ref sig .tc := ⟨.hbm, 369, rfl⟩
abbrev main_v214 : Ref sig .tc := ⟨.hbm, 370, rfl⟩
abbrev main_cst_56 : Ref sig .tc := ⟨.hbm, 371, rfl⟩
abbrev main_v215 : Ref sig .tc := ⟨.hbm, 372, rfl⟩
abbrev main_cst_57 : Ref sig .tc := ⟨.hbm, 373, rfl⟩
abbrev main_v216 : Ref sig .tc := ⟨.hbm, 374, rfl⟩
abbrev main_cst_58 : Ref sig .tc := ⟨.hbm, 375, rfl⟩
abbrev main_v217 : Ref sig .tc := ⟨.hbm, 376, rfl⟩
abbrev main_v218 : Ref sig .tc := ⟨.hbm, 377, rfl⟩
abbrev main_v219 : Ref sig .tc := ⟨.hbm, 378, rfl⟩
abbrev main_v220 : Ref sig .tc := ⟨.hbm, 379, rfl⟩
abbrev main_v221 : Ref sig .tc := ⟨.hbm, 380, rfl⟩
abbrev main_v222 : Ref sig .tc := ⟨.hbm, 381, rfl⟩
abbrev main_v223 : Ref sig .tc := ⟨.hbm, 382, rfl⟩
abbrev main_v224 : Ref sig .tc := ⟨.hbm, 383, rfl⟩
abbrev main_cst_59 : Ref sig .tc := ⟨.hbm, 384, rfl⟩
abbrev main_v225 : Ref sig .tc := ⟨.hbm, 385, rfl⟩
abbrev main_v226 : Ref sig .tc := ⟨.hbm, 386, rfl⟩

abbrev nD : Nat := 1
abbrev τ : Topo := Topo.v7x

variable {F : FTy → Type} [FloatOps F]
-- ==== Proof.Vq.Row.lean ====
/- Hand-written, untrusted: ONE ROW of the vector quantizer over the extended reals. A row `a` of `K` numbers, `J` codes
   of `K` numbers each, the squared distances `dist a c` in the expanded form both programs compute, their minimum `low`,
   the index of the first code that attains it (`IsSel`), the kernel's tie-breaking key, the two spellings of the soft-max
   of the negated distances, and the minimum as a sum of squares. -/
module

public import Idealize.ShloMosaic.PureOps.Ideal.Laws
public import Idealize.ShloMosaic.Lib.IdealHost

@[expose] public section

noncomputable section

namespace Cert.Vq

open Idealize.ShloMosaic
open scoped BigOperators

variable {J K : ℕ}

/-- The squared distance of the row `a` to code `j`, expanded: `(|a|² + |c_j|²) - 2 (a · c_j)`. -/
def dist (a : Fin K → EReal) (c : Fin J → Fin K → EReal) (j : Fin J) : EReal :=
  (∑ k, a k * a k + ∑ k, c j k * c j k) - 2 * ∑ k, a k * c j k

/-- The least of the distances. -/
def low (d : Fin J → EReal) : EReal := Finset.univ.fold min ⊤ d

/-- The gap that the precondition asks for, `2 ^ -24`. -/
def gap : EReal := ((1 / 16777216 : ℝ) : EReal)

/-- The precondition on one row: every distance is the least one or lies at least `2 ^ -24` above it. -/
def Apart (d : Fin J → EReal) : Prop := ∀ j, d j - low d = 0 ∨ gap ≤ d j - low d

/-- `s` is the first index whose distance is the least one. -/
def IsSel (d : Fin J → EReal) (s : Fin J) : Prop := d s = low d ∧ ∀ j, d j = low d → s ≤ j

/-- The least distance is below each. -/
theorem low_le (d : Fin J → EReal) (j : Fin J) : low d ≤ d j :=
  (Finset.fold_min_le _).2 (Or.inr ⟨j, Finset.mem_univ j, le_rfl⟩)

/-- What lies below every distance lies below the least. -/
theorem le_low {d : Fin J → EReal} {x : EReal} (h : ∀ j, x ≤ d j) : x ≤ low d :=
  (Finset.le_fold_min _).2 ⟨le_top, fun j _ => h j⟩

/-- Some code attains the least distance. -/
theorem exists_low (d : Fin J → EReal) (j₀ : Fin J) : ∃ j, d j = low d := by
  rcases (Finset.fold_min_le (b := (⊤ : EReal)) (f := d) (s := Finset.univ) (low d)).1 le_rfl with h | ⟨j, -, h⟩
  · refine ⟨j₀, le_antisymm ?_ (low_le d j₀)⟩
    exact le_top.trans h
  · exact ⟨j, le_antisymm h (low_le d j)⟩

/-- So there is a first such code. -/
theorem exists_sel (d : Fin J → EReal) (j₀ : Fin J) : ∃ s, IsSel d s := by
  classical
  have hne : (Finset.univ.filter fun j => d j = low d).Nonempty := by
    obtain ⟨j, hj⟩ := exists_low d j₀
    exact ⟨j, by simp [hj]⟩
  refine ⟨(Finset.univ.filter fun j => d j = low d).min' hne, ?_, fun j hj => ?_⟩
  · have := Finset.min'_mem _ hne
    exact (Finset.mem_filter.1 this).2
  · exact Finset.min'_le _ _ (by simp [hj])

theorem gap_pos : (0 : EReal) < gap := by
  unfold gap; exact_mod_cast (by norm_num : (0 : ℝ) < 1 / 16777216)

/-- Under the precondition the least distance is a real number: at a code that attains it the gap is a difference of
    equals, which is zero only for a real number (`⊤ - ⊤` and `⊥ - ⊥` are `⊥`). -/
theorem low_real {d : Fin J → EReal} (h : Apart d) (j₀ : Fin J) : ∃ l : ℝ, low d = (l : EReal) := by
  obtain ⟨j, hj⟩ := exists_low d j₀
  have hg := h j
  rw [hj] at hg
  induction hl : low d using EReal.rec with
  | bot =>
    rw [hl] at hg
    rcases hg with e | e
    · simp at e
    · rw [show (⊥ - ⊥ : EReal) = ⊥ by simp] at e
      exact absurd (lt_of_lt_of_le gap_pos e) (by simp)
  | top =>
    rw [hl] at hg
    rcases hg with e | e
    · simp at e
    · rw [show (⊤ - ⊤ : EReal) = ⊥ by simp] at e
      exact absurd (lt_of_lt_of_le gap_pos e) (by simp)
  | coe l => exact ⟨l, rfl⟩

/-- With a real least distance, each distance is `⊤` or a real number above it. -/
theorem dist_cases {d : Fin J → EReal} {l : ℝ} (hl : low d = (l : EReal)) (j : Fin J) :
    d j = ⊤ ∨ ∃ r : ℝ, d j = (r : EReal) ∧ l ≤ r := by
  have h := low_le d j
  rw [hl] at h
  induction hd : d j using EReal.rec with
  | bot => rw [hd] at h; simp at h
  | top => exact Or.inl rfl
  | coe r => rw [hd] at h; exact Or.inr ⟨r, rfl, by exact_mod_cast h⟩

/-! ## The kernel's key: the first code at the least distance -/

/-- The kernel's key of code `j`: its gap above the least distance times `2 ^ 34`, plus its index. -/
def key (d : Fin J → EReal) (j : Fin J) : EReal :=
  (d j - low d) * ((17179869184 : ℝ) : EReal) + ((j.val : ℝ) : EReal)

/-- The key of the first code at the least distance is its index. -/
theorem key_sel {d : Fin J → EReal} (h : Apart d) {s : Fin J} (hs : IsSel d s) : key d s = ((s.val : ℝ) : EReal) := by
  obtain ⟨l, hl⟩ := low_real h s
  unfold key
  rw [hs.1, hl, ← EReal.coe_sub, sub_self, EReal.coe_zero, zero_mul, zero_add]

/-- Every other code's key is greater, for at most 1024 codes. -/
theorem key_gt {d : Fin J → EReal} (hJ : J ≤ 1024) (h : Apart d) {s : Fin J} (hs : IsSel d s) {j : Fin J} (hj : j ≠ s) :
    ((s.val : ℝ) : EReal) < key d j := by
  obtain ⟨l, hl⟩ := low_real h s
  have hsJ := s.isLt
  unfold key
  rcases dist_cases hl j with e | ⟨r, e, -⟩
  · rw [e, hl, EReal.top_sub_coe, EReal.top_mul_coe_of_pos (by norm_num), EReal.top_add_coe]
    exact EReal.coe_lt_top _
  · have hg := h j
    rw [e, hl, ← EReal.coe_sub] at hg
    rw [e, hl, ← EReal.coe_sub, ← EReal.coe_mul, ← EReal.coe_add, EReal.coe_lt_coe_iff]
    rcases hg with hz | hz
    · have hz' : r - l = 0 := by exact_mod_cast hz
      have hlt : s < j := lt_of_le_of_ne (hs.2 j (by rw [e, hl, show r = l by linarith])) (Ne.symm hj)
      rw [hz', zero_mul, zero_add]
      exact_mod_cast hlt
    · have hz' : (1 / 16777216 : ℝ) ≤ r - l := by unfold gap at hz; exact_mod_cast hz
      have h1 : (s.val : ℝ) < 1024 := by exact_mod_cast (by omega : s.val < 1024)
      have h2 : (0 : ℝ) ≤ (j.val : ℝ) := by positivity
      nlinarith

/-- So the least key is the first code's index … -/
theorem low_key {d : Fin J → EReal} (hJ : J ≤ 1024) (h : Apart d) {s : Fin J} (hs : IsSel d s) :
    low (key d) = ((s.val : ℝ) : EReal) := by
  refine le_antisymm ((low_le _ s).trans_eq (key_sel h hs)) (le_low fun j => ?_)
  by_cases hj : j = s
  · rw [hj, key_sel h hs]
  · exact (key_gt hJ h hs hj).le

/-- … and only that code attains it. -/
theorem key_eq_low_iff {d : Fin J → EReal} (hJ : J ≤ 1024) (h : Apart d) {s : Fin J} (hs : IsSel d s) (j : Fin J) :
    key d j = low (key d) ↔ j = s := by
  rw [low_key hJ h hs]
  constructor
  · intro e
    by_contra hj
    exact absurd e (key_gt hJ h hs hj).ne'
  · rintro rfl; exact key_sel h hs

/-- The one-hot row of the least key times the codes is the first code at the least distance. -/
theorem onehot_sum {d : Fin J → EReal} (hJ : J ≤ 1024) (h : Apart d) {s : Fin J} (hs : IsSel d s) (v : Fin J → EReal) :
    ∑ j, (if key d j = low (key d) then (1 : EReal) else 0) * v j = v s := by
  classical
  simp only [key_eq_low_iff hJ h hs, ite_mul, one_mul, zero_mul, Finset.sum_ite_eq', Finset.mem_univ, if_true]

/-! ## The soft-max of the negated distances at temperature one half -/

/-- The kernel's factor: minus two over the natural logarithm of two. -/
def rate : EReal := ((-(2 * (Real.log 2)⁻¹) : ℝ) : EReal)

/-- The kernel's exponential, a power of two. -/
def kexp (d : Fin J → EReal) (j : Fin J) : EReal := Ideal.exp2 ((d j - low d) * rate)

/-- The reference's logit: the negated distance over one half. -/
def logit (d : Fin J → EReal) (j : Fin J) : EReal := Ideal.div (-(d j)) ((1 / 2 : ℝ) : EReal)

/-- The reference's exponential: of the logit less the greatest logit. -/
def rexp (d : Fin J → EReal) (j : Fin J) : EReal :=
  Ideal.exp (logit d j - max ⊥ (Finset.univ.fold max ⊥ (logit d)))

theorem logit_eq (d : Fin J → EReal) (j : Fin J) : logit d j = -(d j) * ((2 : ℝ) : EReal) := by
  unfold logit
  rw [Ideal.div_coe (by norm_num)]
  norm_num

/-- The greatest logit is minus twice the least distance. -/
theorem max_logit {d : Fin J → EReal} {l : ℝ} (hl : low d = (l : EReal)) {s : Fin J} (hs : d s = low d) :
    max ⊥ (Finset.univ.fold max ⊥ (logit d)) = ((-l * 2 : ℝ) : EReal) := by
  have hsl : logit d s = ((-l * 2 : ℝ) : EReal) := by
    rw [logit_eq, hs, hl, ← EReal.coe_neg, ← EReal.coe_mul]
  rw [max_eq_right bot_le]
  refine le_antisymm ((Finset.fold_max_le _).2 ⟨bot_le, fun j _ => ?_⟩) ?_
  · rw [logit_eq]
    rcases dist_cases hl j with e | ⟨r, e, hr⟩
    · rw [e, EReal.neg_top, EReal.bot_mul_coe_of_pos (by norm_num)]; exact bot_le
    · rw [e, ← EReal.coe_neg, ← EReal.coe_mul, EReal.coe_le_coe_iff]; linarith
  · exact (Finset.le_fold_max _).2 (Or.inr ⟨s, Finset.mem_univ s, hsl.ge⟩)

/-- The two exponentials are equal. -/
theorem kexp_eq_rexp {d : Fin J → EReal} (h : Apart d) (j : Fin J) : kexp d j = rexp d j := by
  obtain ⟨l, hl⟩ := low_real h j
  obtain ⟨s, hs⟩ := exists_low d j
  unfold kexp rexp rate
  rw [max_logit hl hs, logit_eq, hl]
  have hlog : 0 < Real.log 2 := Real.log_pos (by norm_num)
  rcases dist_cases hl j with e | ⟨r, e, hr⟩
  · rw [e, EReal.top_sub_coe, EReal.top_mul_coe_of_neg (neg_neg_of_pos (by positivity)), EReal.neg_top,
      EReal.bot_mul_coe_of_pos (by norm_num), EReal.bot_sub, Ideal.exp2_bot, Ideal.exp_bot]
  · rw [e, ← EReal.coe_sub, ← EReal.coe_mul, ← EReal.coe_neg, ← EReal.coe_mul, ← EReal.coe_sub, Ideal.exp2_coe,
      Ideal.exp_coe]
    congr 1
    show (2 : ℝ) ^ ((r - l) * -(2 * (Real.log 2)⁻¹) : ℝ) = _
    rw [Real.rpow_def_of_pos (by norm_num)]
    congr 1
    field_simp
    ring

/-- No exponential of the kernel is negative, and that of a code at the least distance is one: their sum is not zero. -/
theorem sum_kexp_ne_zero {d : Fin J → EReal} (h : Apart d) (j₀ : Fin J) : ∑ j, kexp d j ≠ 0 := by
  obtain ⟨l, hl⟩ := low_real h j₀
  obtain ⟨s, hs⟩ := exists_low d j₀
  have hnn : ∀ j, 0 ≤ kexp d j := fun j => by
    unfold kexp rate
    rcases dist_cases hl j with e | ⟨r, e, hr⟩
    · have hlog : 0 < Real.log 2 := Real.log_pos (by norm_num)
      rw [e, hl, EReal.top_sub_coe, EReal.top_mul_coe_of_neg (neg_neg_of_pos (by positivity)), Ideal.exp2_bot]
    · rw [e, hl, ← EReal.coe_sub, ← EReal.coe_mul, Ideal.exp2_coe]
      exact EReal.coe_nonneg.2 (Real.rpow_nonneg (by norm_num) _)
  have h1 : kexp d s = 1 := by
    unfold kexp rate
    rw [hs, hl, ← EReal.coe_sub, sub_self, EReal.coe_zero, zero_mul, ← EReal.coe_zero, Ideal.exp2_coe]
    show (((2 : ℝ) ^ (0 : ℝ) : ℝ) : EReal) = 1
    rw [Real.rpow_zero, EReal.coe_one]
  have hle : kexp d s ≤ ∑ j, kexp d j := Finset.single_le_sum (fun j _ => hnn j) (Finset.mem_univ s)
  rw [h1] at hle
  intro e
  rw [e] at hle
  exact absurd hle (by simp)

/-- The kernel's probability (its exponential times the reciprocal of their sum) is the reference's (a quotient). -/
theorem prob_eq {d : Fin J → EReal} (h : Apart d) (j : Fin J) :
    kexp d j * Ideal.div 1 (∑ i, kexp d i) = Ideal.div (rexp d j) (0 + ∑ i, rexp d i) := by
  rw [Ideal.mul_one_div (sum_kexp_ne_zero h j), zero_add]
  simp only [kexp_eq_rexp h]

/-! ## The least distance as a sum of squares -/

/-- A sum of real numbers, cast. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is not negative. -/
theorem sq_nonneg (x : EReal) : 0 ≤ x * x := by
  induction x using EReal.rec with
  | bot => simp
  | top => simp
  | coe r => rw [← EReal.coe_mul]; exact EReal.coe_nonneg.2 (mul_self_nonneg r)

/-- Numbers whose squares have a sum below `⊤` are real numbers. -/
theorem real_of_sum_sq {a : Fin K → EReal} (h : ∑ k, a k * a k ≠ ⊤) (k : Fin K) : ∃ r : ℝ, a k = (r : EReal) := by
  have hle : a k * a k ≤ ∑ k, a k * a k :=
    Finset.single_le_sum (f := fun k => a k * a k) (fun j _ => sq_nonneg (a j)) (Finset.mem_univ k)
  induction ha : a k using EReal.rec with
  | bot => rw [ha, EReal.bot_mul_bot, top_le_iff] at hle; exact absurd hle h
  | top => rw [ha, EReal.top_mul_top, top_le_iff] at hle; exact absurd hle h
  | coe r => exact ⟨r, rfl⟩

/-- A sum of two terms that are not negative, less a third, is a real number only if neither term is `⊤`. -/
theorem ne_top_of_sub_real {x y z : EReal} (hx : 0 ≤ x) (hy : 0 ≤ y) {l : ℝ} (h : (x + y) - z = (l : EReal)) :
    x ≠ ⊤ ∧ y ≠ ⊤ := by
  have key : x + y ≠ ⊤ := by
    intro e
    rw [e] at h
    induction z using EReal.rec with
    | bot => simp at h
    | top => simp at h
    | coe z => rw [EReal.top_sub_coe] at h; exact absurd h (EReal.coe_ne_top l).symm
  constructor
  · rintro rfl
    exact key (EReal.top_add_of_ne_bot (ne_of_gt (lt_of_lt_of_le (by simp) hy)))
  · rintro rfl
    exact key (EReal.add_top_of_ne_bot (ne_of_gt (lt_of_lt_of_le (by simp) hx)))

/-- Under the precondition the row and its nearest code are real numbers, and the least distance is the sum of the
    squares of their differences. -/
theorem low_eq_sum_sq {a : Fin K → EReal} {c : Fin J → Fin K → EReal} (h : Apart (dist a c)) {s : Fin J}
    (hs : IsSel (dist a c) s) :
    ∃ x y : Fin K → ℝ, (∀ k, a k = (x k : EReal)) ∧ (∀ k, c s k = (y k : EReal))
      ∧ low (dist a c) = ((∑ k, (y k - x k) * (y k - x k) : ℝ) : EReal) := by
  obtain ⟨l, hl⟩ := low_real h s
  have hd : dist a c s = (l : EReal) := hs.1.trans hl
  unfold dist at hd
  obtain ⟨ha, hc⟩ := ne_top_of_sub_real (Finset.sum_nonneg fun k _ => sq_nonneg (a k))
    (Finset.sum_nonneg fun k _ => sq_nonneg (c s k)) hd
  choose x hx using real_of_sum_sq ha
  choose y hy using real_of_sum_sq hc
  refine ⟨x, y, hx, hy, ?_⟩
  rw [← hs.1]
  unfold dist
  simp only [hx, hy, ← EReal.coe_mul, ← coe_sum, ← EReal.coe_add]
  rw [show (2 : EReal) = ((2 : ℝ) : EReal) by norm_cast, ← EReal.coe_mul, ← EReal.coe_sub]
  congr 1
  rw [← Finset.sum_add_distrib, Finset.mul_sum, ← Finset.sum_sub_distrib]
  exact Finset.sum_congr rfl fun k _ => by ring

end Cert.Vq

end
-- ==== Proof.Vq.Pay.lean ====
/- Hand-written, untrusted: WHAT ONE GRID POINT COMPUTES, read element by element. The generated payloads of the kernel's
   body at the extended reals, as functions of the two loaded blocks: a block of pixels (two images of one group, channels
   before pixels) read as 1152 rows of 96 channels, and the group's 1024 codes. -/
module

public import proofs.«01_k».proof.Proof.Gen.KernelIdeal.Skeleton
public import proofs.«01_k».proof.Proof.Vq.Row
public import Idealize.ShloMosaic.Lib.Pointwise

@[expose] public section

set_option maxRecDepth 16384

noncomputable section

namespace Cert.Vq

open Idealize.ShloMosaic Cert.KernelIdeal Cert.KernelIdeal.Gen
open scoped BigOperators

/-! ## The constants -/

/-- The pattern `0x40000000` is two. -/
theorem ofBits_two : Ideal.ofBits .f32 0x40000000#32 = 2 := by
  rw [show (2 : EReal) = ((2 : ℝ) : EReal) by norm_cast]
  simp [Ideal.ofBits, Ideal.ieee, -EReal.coe_mul]; norm_num

/-- The pattern `0x7F800000` is `⊤`. -/
theorem ofBits_top : Ideal.ofBits .f32 0x7F800000#32 = ⊤ := by
  simp [Ideal.ofBits, Ideal.ieee]

/-- The key's factor, the pattern `0x50800000`, is `2 ^ 34`. -/
theorem ofBits_key : Ideal.ofBits .f32 0x50800000#32 = ((17179869184 : ℝ) : EReal) := by
  simp [Ideal.ofBits, Ideal.ieee, -EReal.coe_mul]; norm_num

/-- The named rate is minus two over the logarithm of two. -/
theorem named_rate : Named.named (F := Ideal) κ (φ := .f32) "neg_two_over_ln2" 0xC038AA3B#32 = rate := rfl

/-- The loss's scale, `1.25 / 3538944`. -/
def scale : EReal := ((5 / 14155776 : ℝ) : EReal)

theorem named_scale : Named.named (F := Ideal) κ (φ := .f32) "loss_scale" 0x34BDA12F#32 = scale := rfl

/-! ## One row's three results, as the kernel computes them -/

/-- The probability of code `j` for the row `a`. -/
def kprob (a : Fin 96 → EReal) (c : Fin 1024 → Fin 96 → EReal) (j : Fin 1024) : EReal :=
  kexp (dist a c) j * Ideal.div 1 (∑ i, kexp (dist a c) i)

/-- The code of the least key, by its one-hot row times the codes. -/
def kpick (a : Fin 96 → EReal) (c : Fin 1024 → Fin 96 → EReal) (k : Fin 96) : EReal :=
  ∑ j, (if key (dist a c) j = low (key (dist a c)) then (1 : EReal) else 0) * c j k

/-- A key, spelt out, and the least of a family, spelt as a fold: to fold the definitions back. -/
theorem key_fold (d : Fin 1024 → EReal) (j : Fin 1024) :
    (d j - low d) * ((17179869184 : ℝ) : EReal) + ((j.val : ℝ) : EReal) = key d j := rfl

theorem low_fold (d : Fin 1024 → EReal) : Finset.univ.fold min ⊤ (fun j => d j) = low d := rfl

/-! ## The blocks read as rows -/

/-- Row `i` of a block: pixel `i % 576` of image `i / 576`, its 96 channels. -/
def brow (x : S2x1x96x576.Idx → EReal) (i : Fin 1152) (k : Fin 96) : EReal :=
  x (ix4 ⟨i.val / 576, by omega⟩ 0 k ⟨i.val % 576, by omega⟩)

/-- Code `j` of a block. -/
def bcode (x : S1x1024x96.Idx → EReal) (j : Fin 1024) (k : Fin 96) : EReal := x (ix3 0 j k)

variable (x0 : Vec Ideal S2x1x96x576 .f32) (x1 : Vec Ideal S1x1024x96 .f32)

/-- The transposed, flattened block of pixels is its rows. -/
theorem pay4_apply (i : Fin 1152) (k : Fin 96) : k0_pay4 x0 (ix2 i k) = brow x0 i k := by
  unfold k0_pay4 brow
  pointwise

/-- The block of codes is the codes. -/
theorem pay3_apply (j : Fin 1024) (k : Fin 96) : k0_pay3 x1 (ix2 j k) = bcode x1 j k := by
  unfold k0_pay3 bcode
  pointwise

/-- The expanded squared distances. -/
theorem pay5_apply (i : Fin 1152) (j : Fin 1024) : k0_pay5 x0 x1 (ix2 i j) = dist (brow x0 i) (bcode x1) j := by
  unfold k0_pay5
  pointwise
  simp only [pay4_apply, pay3_apply, ofBits_two]
  rfl

/-- Each row's least distance. -/
theorem pay6_apply (i : Fin 1152) (u : Fin 1) : k0_pay6 x0 x1 (ix2 i u) = low (dist (brow x0 i) (bcode x1)) := by
  unfold k0_pay6
  pointwise
  simp only [pay5_apply, ofBits_top]
  rfl

/-- Each distance less its row's least. -/
theorem pay7_apply (i : Fin 1152) (j : Fin 1024) :
    k0_pay7 x0 x1 (ix2 i j) = dist (brow x0 i) (bcode x1) j - low (dist (brow x0 i) (bcode x1)) := by
  unfold k0_pay7
  pointwise
  simp only [pay5_apply, pay6_apply]

/-- The stored probabilities. -/
theorem pay8_apply (a : Fin 2) (p : Fin 576) (j : Fin 1024) :
    k0_pay8 x0 x1 (ix3 a p j) = kprob (brow x0 ⟨a.val * 576 + p.val, by omega⟩) (bcode x1) j := by
  unfold k0_pay8
  pointwise
  simp only [pay7_apply, named_rate]
  rfl

/-- The gaps times `2 ^ 34`. -/
theorem pay9_apply (i : Fin 1152) (j : Fin 1024) : k0_pay9 x0 x1 (ix2 i j)
    = (dist (brow x0 i) (bcode x1) j - low (dist (brow x0 i) (bcode x1))) * ((17179869184 : ℝ) : EReal) := by
  unfold k0_pay9
  pointwise
  simp only [pay7_apply, ofBits_key]

/-- The stored quantized rows, where the third operand holds the codes' indices as numbers. -/
theorem pay1_apply (x2 : Vec Ideal S1x1024 .f32) (h2 : ∀ j : Fin 1024, x2 (ix2 0 j) = ((j.val : ℝ) : EReal))
    (a : Fin 2) (u : Fin 1) (k : Fin 96) (p : Fin 576) :
    k0_pay1 (k0_pay3 x1) (k0_pay4 x0) (k0_pay9 x0 x1) x2 (ix4 a u k p)
      = brow x0 ⟨a.val * 576 + p.val, by omega⟩ k
        + (kpick (brow x0 ⟨a.val * 576 + p.val, by omega⟩) (bcode x1) k - brow x0 ⟨a.val * 576 + p.val, by omega⟩ k) := by
  unfold k0_pay1
  pointwise
  simp only [pay3_apply, pay4_apply, pay9_apply, h2, ofBits_top, key_fold, low_fold]
  rfl

/-- The stored share of the loss: the sum of the rows' least distances, scaled. -/
theorem pay2_apply : k0_pay2 (k0_pay6 x0 x1) = (∑ i : Fin 1152, low (dist (brow x0 i) (bcode x1))) * scale := by
  have h : ∀ v : FVec Ideal S1152x1 .f32, k0_pay2 v = (∑ i : Fin 1152, ∑ _u : Fin 1, v (ix2 i 0)) * scale := fun v => by
    unfold k0_pay2
    pointwise
    rw [named_scale]
  rw [h]
  refine congrArg (· * scale) (Finset.sum_congr rfl fun i _ => ?_)
  rw [Fin.sum_univ_one, pay6_apply]

end Cert.Vq

end
-- ==== Proof.Vq.Group.lean ====
/- Hand-written, untrusted: WHAT THE REFERENCE COMPUTES FOR ONE GROUP, as functions of the group's rows and codes, each host
   operation as the reference prints it, and each read entry by entry at the extended reals. -/
module

public import proofs.«01_k».proof.Proof.Gen.ReferenceIdeal
public import proofs.«01_k».proof.Proof.Vq.Pay
public import Idealize.ShloMosaic.Lib.Pointwise
public import Idealize.ShloMosaic.Lib.Routing.Ops

@[expose] public section

set_option maxRecDepth 16384

noncomputable section

namespace Cert.Vq.Group

open Idealize.ShloMosaic Cert.ReferenceIdeal Cert.ReferenceIdeal.Gen
open scoped BigOperators

variable (z : FVec Ideal S9216x96 .f32) (e : FVec Ideal S1024x96 .f32)

/-- The expanded squared distances of every row to every code. -/
def dmat : FVec Ideal S9216x1024 .f32 :=
  subf (addf (broadcastInDim S9216x1024 ![0, 1] bcast_S9216x1_S9216x1024_0_1 (broadcastInDim S9216x1 ![0] bcast_S9216_S9216x1_0 (Host.reduceAdd (mulf z z) (constant S_ .f32 0x00000000#32) reducesTo_S9216x96_S9216_d1 h_S_))) (broadcastInDim S9216x1024 ![0, 1] bcast_S1x1024_S9216x1024_0_1 (broadcastInDim S1x1024 ![1] bcast_S1024_S1x1024_1 (Host.reduceAdd (mulf e e) (constant S_ .f32 0x00000000#32) reducesTo_S1024x96_S1024_d1 h_S_)))) (mulf (broadcastInDim S9216x1024 ![] bcast_S_S9216x1024 (constant S_ .f32 0x40000000#32)) (Host.dotGeneral dot_S9216x96_S96x1024_S9216x1024_1_0_0_1_n_n none z (transpose S96x1024 [1, 0] e transposes_S1024x96_S96x1024_1_0)))

/-- The least code index at which each row's distance is least. -/
def sel (d : FVec Ideal S9216x1024 .f32) : IVec S9216 32 :=
  Host.reduce IntOp.minsi (select (cmpf .oeq d (broadcastInDim S9216x1024 ![0, 1] bcast_S9216x1_S9216x1024_0_1 (broadcastInDim S9216x1 ![0] bcast_S9216_S9216x1_0 (Host.reduce FloatOps.minimumf d (constant S_ .f32 0x7F800000#32) reducesTo_S9216x1024_S9216_d1 h_S_)))) (iotaInDim S9216x1024 32 1) (broadcastInDim S9216x1024 ![] bcast_S_S9216x1024 (id (constantI S_ 32 1024#32)))) (constantI S_ 32 2147483647#32) reducesTo_S9216x1024_S9216_d1 h_S_

/-- The logits. -/
def logits (d : FVec Ideal S9216x1024 .f32) : FVec Ideal S9216x1024 .f32 :=
  Host.divf (Host.negf d) (broadcastInDim S9216x1024 ![] bcast_S_S9216x1024 (constant S_ .f32 0x3F000000#32))

/-- Each row's greatest logit. -/
def tops (l : FVec Ideal S9216x1024 .f32) : FVec Ideal S9216 .f32 :=
  Host.reduce FloatOps.maximumf l (constant S_ .f32 0xFF800000#32) reducesTo_S9216x1024_S9216_d1 h_S_

/-- The exponentials of the logits less each row's `v`. -/
def exps (l : FVec Ideal S9216x1024 .f32) (v : FVec Ideal S9216 .f32) : FVec Ideal S9216x1024 .f32 :=
  Host.exp (subf l (broadcastInDim S9216x1024 ![0, 1] bcast_S9216x1_S9216x1024_0_1 (broadcastInDim S9216x1 ![0] bcast_S9216_S9216x1_0 (maximumf (broadcastInDim S9216 ![] bcast_S_S9216 (constant S_ .f32 0xFF800000#32)) v))))

/-- The probabilities: the exponentials divided by their row's sum. -/
def probs (x : FVec Ideal S9216x1024 .f32) : FVec Ideal S9216x1024 .f32 :=
  Host.divf x (broadcastInDim S9216x1024 ![0, 1] bcast_S9216x1_S9216x1024_0_1 (broadcastInDim S9216x1 ![0] bcast_S9216_S9216x1_0 (Host.reduceAdd x (constant S_ .f32 0x00000000#32) reducesTo_S9216x1024_S9216_d1 h_S_)))

/-- The selected indices as gather indices: a negative one counts from the end. -/
def wrap (s : IVec S9216 32) : IVec S9216x1 32 :=
  broadcastInDim S9216x1 ![0] bcast_S9216_S9216x1_0 (select (cmpi .slt s (broadcastInDim S9216 ![] bcast_S_S9216 (constantI S_ 32 0#32))) (addi s (broadcastInDim S9216 ![] bcast_S_S9216 (constantI S_ 32 1024#32))) s)

/-- The gathered codes, not-a-number where the index is out of range. -/
def taken (w : IVec S9216x1 32) : FVec Ideal S9216x96 .f32 :=
  select (broadcastInDim S9216x96 ![0] bcast_S9216_S9216x96_0 (Host.reduce IntOp.andi (andi (cmpi .sge w (broadcastInDim S9216x1 ![] bcast_S_S9216x1 (constantI S_ 32 0#32))) (cmpi .sle w (broadcastInDim S9216x1 ![0, 1] bcast_S1x1_S9216x1_0_1 (broadcastInDim S1x1 ![1] bcast_S1_S1x1_1 (constantI S1 32 1023#32))))) (constantI S_ 1 1#1) reducesTo_S9216x1_S9216_d1 h_S_)) (Host.gather gather_S1024x96_S9216x1_S9216x96_1_0_n_n_0_1_196 e w) (broadcastInDim S9216x96 ![] bcast_S_S9216x96 (constant S_ .f32 0x7FC00000#32))

/-! ## Entry by entry -/

/-- The pattern `0x3F000000` is a half. -/
theorem ofBits_half : Ideal.ofBits .f32 0x3F000000#32 = ((1 / 2 : ℝ) : EReal) := by
  simp [Ideal.ofBits, Ideal.ieee, -EReal.coe_mul]; norm_num

/-- The pattern `0xFF800000` is `⊥`. -/
theorem ofBits_bot : Ideal.ofBits .f32 0xFF800000#32 = ⊥ := by
  simp [Ideal.ofBits, Ideal.ieee]

/-- A distance. -/
theorem dmat_apply (n : Fin 9216) (j : Fin 1024) : dmat z e (ix2 n j) = dist (fun k => z (ix2 n k)) (fun j k => e (ix2 j k)) j := by
  unfold dmat
  pointwise
  rw [ofBits_two]
  rfl

/-- A logit. -/
theorem logits_apply (d : FVec Ideal S9216x1024 .f32) (n : Fin 9216) (j : Fin 1024) : logits d (ix2 n j) = logit (fun j => d (ix2 n j)) j := by
  unfold logits
  pointwise
  rw [ofBits_half]
  rfl

/-- A row's greatest logit. -/
theorem tops_apply (l : FVec Ideal S9216x1024 .f32) (n : Fin 9216) : tops l (ix1 n) = Finset.univ.fold max ⊥ fun j => l (ix2 n j) := by
  unfold tops
  pointwise
  rw [ofBits_bot]

/-- An exponential. -/
theorem exps_apply (l : FVec Ideal S9216x1024 .f32) (v : FVec Ideal S9216 .f32) (n : Fin 9216) (j : Fin 1024) :
    exps l v (ix2 n j) = Ideal.exp (l (ix2 n j) - max ⊥ (v (ix1 n))) := by
  unfold exps
  pointwise
  rw [ofBits_bot]

/-- The exponentials of the distances' logits, each row less its greatest. -/
theorem exps_logits (d : FVec Ideal S9216x1024 .f32) (n : Fin 9216) (j : Fin 1024) :
    exps (logits d) (tops (logits d)) (ix2 n j) = rexp (fun j => d (ix2 n j)) j := by
  rw [exps_apply, tops_apply, logits_apply]
  unfold rexp
  rw [funext fun j => logits_apply d n j]

/-- A probability. -/
theorem probs_apply (x : FVec Ideal S9216x1024 .f32) (n : Fin 9216) (j : Fin 1024) : probs x (ix2 n j) = Ideal.div (x (ix2 n j)) (0 + ∑ j, x (ix2 n j)) := by
  unfold probs
  pointwise

/-- An operation's fold over a finite type is the value at `s` where that value absorbs every other value and the start. -/
theorem fold_absorb {α ι : Type} [Fintype ι] [DecidableEq ι] (op : α → α → α) [Std.Commutative op] [Std.Associative op] (b : α) (f : ι → α)
    (s : ι) (hf : ∀ j, op (f s) (f j) = f s) (hb : op (f s) b = f s) : Finset.univ.fold op b f = f s := by
  have h : ∀ S : Finset ι, op (f s) (S.fold op b f) = f s := fun S => by
    induction S using Finset.induction_on with
    | empty => rw [Finset.fold_empty]; exact hb
    | insert a S ha ih => rw [Finset.fold_insert ha, ← Std.Associative.assoc (op := op), hf, ih]
  rw [← Finset.insert_erase (Finset.mem_univ s), Finset.fold_insert (Finset.notMem_erase s _), h]

/-- The lesser of two words, where the first is at most the second as integers. -/
theorem minsi_of_le (x y : BitVec 32) (h : x.toInt ≤ y.toInt) : IntOp.minsi x y = x := by
  unfold IntOp.minsi
  split
  · rfl
  · rename_i hn
    rw [BitVec.slt_iff_toInt_lt] at hn
    exact BitVec.eq_of_toInt_eq (by omega)

/-- A small index as a word, read back. -/
theorem toInt_idx (j : Fin 1024) : (BitVec.ofNat 32 j.val).toInt = j.val := by
  rw [BitVec.toInt_eq_toNat_of_lt (by rw [BitVec.toNat_ofNat]; omega), BitVec.toNat_ofNat, Nat.mod_eq_of_lt (by omega)]

/-- The selected index: the first at which the row's distance is least. -/
theorem sel_apply (d : FVec Ideal S9216x1024 .f32) (n : Fin 9216) (s : Fin 1024) (h : IsSel (fun j => d (ix2 n j)) s) :
    sel d (ix1 n) = BitVec.ofNat 32 s.val := by
  unfold sel
  pointwise
  rw [ofBits_top]
  have hs : (if d (ix2 n s) = Finset.fold min ⊤ (fun x => d (ix2 n x)) Finset.univ then BitVec.ofNat 32 s.val
      else id (constantI S_ 32 1024#32) ix0) = BitVec.ofNat 32 s.val := if_pos h.1
  refine (fold_absorb IntOp.minsi _ _ s (fun j => ?_) ?_).trans hs
  · rw [hs]
    refine minsi_of_le _ _ ?_
    split
    · rename_i hj
      rw [toInt_idx, toInt_idx]
      exact_mod_cast h.2 j hj
    · rw [toInt_idx]
      show (s.val : Int) ≤ (1024#32 : BitVec 32).toInt
      rw [show (1024#32 : BitVec 32).toInt = 1024 by decide]
      omega
  · rw [hs]
    refine minsi_of_le _ _ ?_
    rw [toInt_idx, show (2147483647#32 : BitVec 32).toInt = 2147483647 by decide]
    omega

/-- An index in range is not wrapped. -/
theorem wrap_apply (s : IVec S9216 32) (n : Fin 9216) (j : Fin 1024) (h : s (ix1 n) = BitVec.ofNat 32 j.val) :
    wrap s (ix2 n 0) = BitVec.ofNat 32 j.val := by
  unfold wrap
  pointwise
  rw [h, (by decide +kernel : ∀ j : Fin 1024, IntOp.cmpi .slt (BitVec.ofNat 32 j.val) 0#32 = 0#1) j]
  rfl

/-- What is gathered at a row whose index is in range: the code of that index. -/
theorem taken_apply (w : IVec S9216x1 32) (n : Fin 9216) (k : Fin 96) (j : Fin 1024) (h : w (ix2 n 0) = BitVec.ofNat 32 j.val) :
    taken e w (ix2 n k) = e (ix2 j k) := by
  unfold taken
  pointwise
  rw [show (Finset.fold IntOp.andi (1#1) (fun x : Fin 1 => IntOp.andi (IntOp.cmpi .sge (w (ix2 n x)) 0#32)
      (IntOp.cmpi .sle (w (ix2 n x)) 1023#32)) Finset.univ) = 1#1 from ?_]
  · exact Routing.gather_row _ rfl rfl rfl rfl rfl e w n k j h (by norm_num)
  · rw [Finset.univ_unique, Finset.fold_singleton]
    show IntOp.andi (IntOp.andi (IntOp.cmpi .sge (w (ix2 n 0)) 0#32) (IntOp.cmpi .sle (w (ix2 n 0)) 1023#32)) 1#1 = 1#1
    rw [h]
    exact (by decide +kernel : ∀ j : Fin 1024, IntOp.andi (IntOp.andi (IntOp.cmpi .sge (BitVec.ofNat 32 j.val) 0#32)
      (IntOp.cmpi .sle (BitVec.ofNat 32 j.val) 1023#32)) 1#1 = 1#1) j

/-- The code that the reference takes for each row. -/
def quant : FVec Ideal S9216x96 .f32 := taken e (wrap (sel (dmat z e)))

/-- What it is: the code of the first index at which the row's distance is least. -/
theorem quant_apply (n : Fin 9216) (k : Fin 96) (s : Fin 1024) (h : IsSel (dist (fun k => z (ix2 n k)) (fun j k => e (ix2 j k))) s) :
    quant z e (ix2 n k) = e (ix2 s k) :=
  taken_apply e _ n k s (wrap_apply _ n s (sel_apply _ n s (by rwa [funext fun j => dmat_apply z e n j])))

/-- The reference's probabilities. -/
def prob : FVec Ideal S9216x1024 .f32 :=
  probs (exps (logits (dmat z e)) (tops (logits (dmat z e))))

/-- What they are. -/
theorem prob_apply (n : Fin 9216) (j : Fin 1024) : prob z e (ix2 n j)
    = Ideal.div (rexp (dist (fun k => z (ix2 n k)) (fun j k => e (ix2 j k))) j)
      (0 + ∑ j, rexp (dist (fun k => z (ix2 n k)) (fun j k => e (ix2 j k))) j) := by
  unfold prob
  rw [probs_apply]
  simp only [exps_logits, dmat_apply]

/-- The mean of the squares of all entries: their sum divided by 884736. -/
def mean (x : FVec Ideal S9216x96 .f32) : FVec Ideal S_ .f32 :=
  Host.divf (Host.reduceAdd (mulf x x) (constant S_ .f32 0x00000000#32) reducesTo_S9216x96_S_d0_1 h_S_) (constant S_ .f32 0x49580000#32)

/-- The reference's loss of one group. -/
def loss : FVec Ideal S_ .f32 :=
  addf (mean (subf (quant z e) z)) (mulf (constant S_ .f32 0x3E800000#32) (mean (subf z (quant z e))))

/-- The pattern `0x49580000` is the number of a group's entries. -/
theorem ofBits_count : Ideal.ofBits .f32 0x49580000#32 = ((884736 : ℝ) : EReal) := by
  simp [Ideal.ofBits, Ideal.ieee, -EReal.coe_mul]; norm_num

/-- The pattern `0x3E800000` is a quarter. -/
theorem ofBits_quarter : Ideal.ofBits .f32 0x3E800000#32 = ((1 / 4 : ℝ) : EReal) := by
  simp [Ideal.ofBits, Ideal.ieee, -EReal.coe_mul]; norm_num

/-- The pattern `0x40800000` is four. -/
theorem ofBits_four : Ideal.ofBits .f32 0x40800000#32 = ((4 : ℝ) : EReal) := by
  simp [Ideal.ofBits, Ideal.ieee, -EReal.coe_mul]; norm_num

/-- A mean of squares. -/
theorem mean_apply (x : FVec Ideal S9216x96 .f32) (i : S_.Idx) :
    mean x i = Ideal.div (∑ n : Fin 9216, ∑ k : Fin 96, x (ix2 n k) * x (ix2 n k)) ((884736 : ℝ) : EReal) := by
  unfold mean
  pointwise
  rw [ofBits_count]

end Cert.Vq.Group

end
-- ==== Proof.Vq.Spec.lean ====
/- Hand-written, untrusted: THE THREE RESULTS AS FUNCTIONS OF THE ARGUMENTS, before the program's own shapes: the rows of the
   activations, the codes of a group, and what each result array holds entry by entry. -/
module

public import proofs.«01_k».proof.Proof.Vq.Pay

@[expose] public section

set_option maxRecDepth 16384

noncomputable section

namespace Cert.Vq

open Idealize.ShloMosaic Cert.KernelIdeal Cert.KernelIdeal.Gen
open scoped BigOperators

/-- Row `n` of group `g`: the 96 channels of the group at pixel `n % 576` of image `n / 576`. -/
def zrow (X : Vec Ideal S16x384x24x24 .f32) (g : Fin 4) (n : Fin 9216) (k : Fin 96) : EReal :=
  X (ix4 (⟨n.val / 576, by omega⟩ : Fin 16) (⟨g.val * 96 + k.val, by omega⟩ : Fin 384)
    (⟨n.val % 576 / 24, by omega⟩ : Fin 24) (⟨n.val % 24, by omega⟩ : Fin 24))

/-- Code `j` of group `g`. -/
def code (C : Vec Ideal S4x1024x96 .f32) (g : Fin 4) (j : Fin 1024) (k : Fin 96) : EReal := C (ix3 g j k)

variable (X : Vec Ideal S16x384x24x24 .f32) (C : Vec Ideal S4x1024x96 .f32)

/-- One entry of the quantized activations: the row's channel plus what the picked code differs by. -/
def zq (g : Fin 4) (n : Fin 9216) (k : Fin 96) : EReal :=
  zrow X g n k + (kpick (zrow X g n) (code C g) k - zrow X g n k)

/-- The sum of the least distances of the 1152 rows of image pair `b` of group `g`. -/
def pairLoss (g : Fin 4) (b : Fin 8) : EReal :=
  ∑ r : Fin 1152, low (dist (zrow X g ⟨b.val * 1152 + r.val, by omega⟩) (code C g))

/-- The kernel's first array: image, group, channel, pixel. -/
def arr3 : Vec Ideal S16x4x96x576 .f32 := fun i =>
  zq X C (i 1) ⟨(i 0).val * 576 + (i 3).val, by
    have h0 : (i 0).val < 16 := (i 0).isLt
    have h3 : (i 3).val < 576 := (i 3).isLt
    omega⟩ (i 2)

/-- The kernel's second array: image, pixel, and the codes of all groups side by side. -/
def arr4 : Vec Ideal S16x576x4096 .f32 := fun i =>
  have h0 : (i 0).val < 16 := (i 0).isLt
  have h1 : (i 1).val < 576 := (i 1).isLt
  have h2 : (i 2).val < 4096 := (i 2).isLt
  kprob (zrow X ⟨(i 2).val / 1024, by omega⟩ ⟨(i 0).val * 576 + (i 1).val, by omega⟩)
    (code C ⟨(i 2).val / 1024, by omega⟩) ⟨(i 2).val % 1024, by omega⟩

/-- The kernel's third array: for each group and image pair, its scaled sum of least distances. -/
def arr5 : Vec Ideal S4x8x1x1 .f32 := fun i => pairLoss X C (i 0) (i 1) * scale

end Cert.Vq

end
-- ==== Proof.Vq.Reference.lean ====
/- Hand-written, untrusted: THE REFERENCE'S RESULTS: each group's rows and codes are slices of the arguments, its results
   the one-group functions of them, and the three results the groups' side by side (or their losses' mean). -/
module

public import proofs.«01_k».proof.Proof.Gen.ReferenceIdeal.Run
public import proofs.«01_k».proof.Proof.Vq.Group
public import proofs.«01_k».proof.Proof.Vq.Spec

@[expose] public section

set_option maxRecDepth 16384

noncomputable section

namespace Cert.Vq

open Idealize.ShloMosaic Cert.ReferenceIdeal Cert.ReferenceIdeal.Gen Cert.ReferenceIdeal.Value Idealize.SL.Sem Idealize.ShloMosaic.StableHlo
open Idealize.ShloMosaic.TcCoe
open scoped BigOperators

/-- The rows of the group whose channels start at `o`. -/
def gz (o : Nat) (h : S16x384x24x24.Slices ![0, o, 0, 0] S16x96x24x24) (X : FVec Ideal S16x384x24x24 .f32) : FVec Ideal S9216x96 .f32 :=
  shapeCast _ (transpose S16x24x24x96 [0, 2, 3, 1] (extractStridedSlice S16x96x24x24 ![0, o, 0, 0] X h) transposes_S16x96x24x24_S16x24x24x96_0_2_3_1) shapeCasts_S16x24x24x96_S9216x96

/-- The codes of group `o`. -/
def ge (o : Nat) (h : S4x1024x96.Slices ![o, 0, 0] S1x1024x96) (C : FVec Ideal S4x1024x96 .f32) : FVec Ideal S1024x96 .f32 :=
  shapeCast _ (extractStridedSlice S1x1024x96 ![o, 0, 0] C h) shapeCasts_S1x1024x96_S1024x96

variable (X : FVec Ideal S16x384x24x24 .f32) (C : FVec Ideal S4x1024x96 .f32)

theorem gz_apply (o : Nat) (h) (g : Fin 4) (ho : o = g.val * 96) (n : Fin 9216) (k : Fin 96) : gz o h X (ix2 n k) = zrow X g n k := by
  unfold gz zrow
  pointwise
  congr 1
  funext a; apply Fin.ext
  match a with
  | ⟨0, _⟩ => rfl
  | ⟨1, _⟩ => show o + k.val = g.val * 96 + k.val; omega
  | ⟨2, _⟩ => show n.val / 24 % 24 = n.val % 576 / 24; omega
  | ⟨3, _⟩ => rfl

theorem ge_apply (o : Nat) (h) (g : Fin 4) (ho : o = g.val) (j : Fin 1024) (k : Fin 96) : ge o h C (ix2 j k) = code C g j k := by
  unfold ge code
  pointwise
  congr 1
  funext a; apply Fin.ext
  match a with
  | ⟨0, _⟩ => show o = g.val; omega
  | ⟨1, _⟩ => rfl
  | ⟨2, _⟩ => rfl

/-- Rows laid out as a group's channels of images. -/
def back (x : FVec Ideal S9216x96 .f32) : FVec Ideal S16x96x24x24 .f32 :=
  transpose S16x96x24x24 [0, 3, 1, 2] (shapeCast _ x shapeCasts_S9216x96_S16x24x24x96) transposes_S16x24x24x96_S16x96x24x24_0_3_1_2

theorem back_apply (x : FVec Ideal S9216x96 .f32) (img : Fin 16) (k : Fin 96) (h w : Fin 24) :
    back x (ix4 img k h w) = x (ix2 ⟨img.val * 576 + (h.val * 24 + w.val), by omega⟩ k) := by
  unfold back
  pointwise
  congr 1
  funext a; apply Fin.ext
  match a with
  | ⟨0, _⟩ => show img.val * 576 + h.val * 24 + w.val = img.val * 576 + (h.val * 24 + w.val); omega
  | ⟨1, _⟩ => rfl

/-! ## The four groups -/

/-- The rows of the four groups. -/
def gz0 := gz 0 slices_S16x384x24x24_S16x96x24x24_0_0_0_0 X
def gz1 := gz 96 slices_S16x384x24x24_S16x96x24x24_0_96_0_0 X
def gz2 := gz 192 slices_S16x384x24x24_S16x96x24x24_0_192_0_0 X
def gz3 := gz 288 slices_S16x384x24x24_S16x96x24x24_0_288_0_0 X

/-- The codes of the four groups. -/
def ge0 := ge 0 slices_S4x1024x96_S1x1024x96_0_0_0 C
def ge1 := ge 1 slices_S4x1024x96_S1x1024x96_1_0_0 C
def ge2 := ge 2 slices_S4x1024x96_S1x1024x96_2_0_0 C
def ge3 := ge 3 slices_S4x1024x96_S1x1024x96_3_0_0 C

/-- A group's rows moved to their codes. -/
def moved (z : FVec Ideal S9216x96 .f32) (e : FVec Ideal S1024x96 .f32) : FVec Ideal S9216x96 .f32 := addf z (subf (Group.quant z e) z)

/-- The first result: the groups' channels side by side. -/
def refZq : FVec Ideal S16x384x24x24 .f32 :=
  concatenate S16x384x24x24 1 [⟨S16x96x24x24, back (moved (gz0 X) (ge0 C))⟩, ⟨S16x96x24x24, back (moved (gz1 X) (ge1 C))⟩,
    ⟨S16x96x24x24, back (moved (gz2 X) (ge2 C))⟩, ⟨S16x96x24x24, back (moved (gz3 X) (ge3 C))⟩]
    concatenates_S16x96x24x24_S16x96x24x24_S16x96x24x24_S16x96x24x24_S16x384x24x24_d1

/-- The second result: the mean of the groups' losses. -/
def refLoss : FVec Ideal S_ .f32 :=
  Host.divf (addf (addf (addf (addf (constant S_ .f32 0x00000000#32) (Group.loss (gz0 X) (ge0 C))) (Group.loss (gz1 X) (ge1 C)))
    (Group.loss (gz2 X) (ge2 C))) (Group.loss (gz3 X) (ge3 C))) (constant S_ .f32 0x40800000#32)

/-- The third result: the groups' probabilities side by side. -/
def refProb : FVec Ideal S9216x4096 .f32 :=
  concatenate S9216x4096 1 [⟨S9216x1024, Group.prob (gz0 X) (ge0 C)⟩, ⟨S9216x1024, Group.prob (gz1 X) (ge1 C)⟩,
    ⟨S9216x1024, Group.prob (gz2 X) (ge2 C)⟩, ⟨S9216x1024, Group.prob (gz3 X) (ge3 C)⟩]
    concatenates_S9216x1024_S9216x1024_S9216x1024_S9216x1024_S9216x4096_d1

section Run

variable (V : Valuation τ sig (Elt Ideal))

theorem val_z0 : res_main_v7 V = gz0 (V (Proc.devRef .tc main_arg0)) := rfl
theorem val_z1 : res_main_v62 V = gz1 (V (Proc.devRef .tc main_arg0)) := rfl
theorem val_z2 : res_main_v117 V = gz2 (V (Proc.devRef .tc main_arg0)) := rfl
theorem val_z3 : res_main_v172 V = gz3 (V (Proc.devRef .tc main_arg0)) := rfl
theorem val_q0 : res_main_v43 V = Group.quant (gz0 (V (Proc.devRef .tc main_arg0))) (ge0 (V (Proc.devRef .tc main_arg1))) := rfl
theorem val_q1 : res_main_v98 V = Group.quant (gz1 (V (Proc.devRef .tc main_arg0))) (ge1 (V (Proc.devRef .tc main_arg1))) := rfl
theorem val_q2 : res_main_v153 V = Group.quant (gz2 (V (Proc.devRef .tc main_arg0))) (ge2 (V (Proc.devRef .tc main_arg1))) := rfl
theorem val_q3 : res_main_v208 V = Group.quant (gz3 (V (Proc.devRef .tc main_arg0))) (ge3 (V (Proc.devRef .tc main_arg1))) := rfl

variable (m : (ℓ : Loc nD τ sig) → Buf (Elt Ideal) ℓ) (ρ : Dev nD → PrngReg)

/-- The reference's run: its three results as functions of its arguments, which end as launched. -/
theorem reference_run : θ_run defs (onTc (τ := τ) (main (F := Ideal))) ⟨m, fun _ => 0, ρ⟩ fun r => ∀ c : Dev nD,
      r.2.mem ((c.tc : Thread nD τ).loc main_v224) = refZq (m ((c.tc : Thread nD τ).loc main_arg0)) (m ((c.tc : Thread nD τ).loc main_arg1))
      ∧ r.2.mem ((c.tc : Thread nD τ).loc main_v225) = refLoss (m ((c.tc : Thread nD τ).loc main_arg0)) (m ((c.tc : Thread nD τ).loc main_arg1))
      ∧ r.2.mem ((c.tc : Thread nD τ).loc main_v226) = refProb (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Run

end Cert.Vq

end
-- ==== Proof.Vq.Blocks.lean ====
/- Hand-written, untrusted: WHAT THE BODY LEAVES IN EACH OUTPUT'S STAGING BUFFER, as the generated payloads of the whole
   loaded blocks: each output gets one store through its whole rectangle, each input is loaded whole. -/
module

public import proofs.«01_k».proof.Proof.Gen.KernelIdeal.Frame
public import Idealize.ShloMosaic.Lib.Pipeline.Value

@[expose] public section

set_option maxRecDepth 16384

noncomputable section

namespace Cert.Vq

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords) (arg2 : Memref sig .tc .vmem S2x1x96x576 .f32) (h2 : arg2.IsWhole)
  (arg3 : Memref sig .tc .vmem S1x1024x96 .f32) (h3 : arg3.IsWhole) (arg4 : Memref sig .tc .vmem S1x1024 .f32) (h4 : arg4.IsWhole)
  (arg5 : Memref sig .tc .vmem S2x1x96x576 .f32) (h5 : arg5.IsWhole) (arg6 : Memref sig .tc .vmem S2x576x1024 .f32) (h6 : arg6.IsWhole)
  (arg7 : Memref sig .tc .smem S1x1x1x1 .f32) (h7 : arg7.IsWhole)
  (x0 : Vec F S2x1x96x576 .f32) (x1 : Vec F S1x1024x96 .f32) (x2 : Vec F S1x1024 .f32)

/-- A load of the whole of the first input's buffer reads the block. -/
theorem ld0 : View.readAt (Elt F) arg2.view
    (Rect.unit ![0, 0, 0, 0] S2x1x96x576.size inb_S2x1x96x576_S2x1x96x576_0_0_0_0).toLoadRect (h2.unread x0) = x0 := by
  rw [View.readAt_eq_ld, h2.read_unread, View.ld_unit_zero hz4]

/-- A load of the whole of the second input's buffer reads the block. -/
theorem ld1 : View.readAt (Elt F) arg3.view
    (Rect.unit ![0, 0, 0] S1x1024x96.size inb_S1x1024x96_S1x1024x96_0_0_0).toLoadRect (h3.unread x1) = x1 := by
  rw [View.readAt_eq_ld, h3.read_unread, View.ld_unit_zero hz3]

/-- A load of the whole of the third input's buffer reads the block. -/
theorem ld2 : View.readAt (Elt F) arg4.view
    (Rect.unit ![0, 0] S1x1024.size inb_S1x1024_S1x1024_0_0).toLoadRect (h4.unread x2) = x2 := by
  rw [View.readAt_eq_ld, h4.read_unread, View.ld_unit_zero hz2]

/-- The first output's buffer ends with the quantized rows of the loaded blocks. -/
theorem out3_eq : out0_A_3 c i arg2 h2 arg3 h3 arg4 h4 arg5 h5 arg6 h6 arg7 h7 x0 x1 x2
    = k0_pay1 (k0_pay3 x1) (k0_pay4 x0) (k0_pay9 x0 x1) x2 := by
  unfold out0_A_3
  rw [View.read_writes_junk_eq_canon]
  show View.canon ([⟨Rect.unit ![0, 0, 0, 0] S2x1x96x576.size inb_S2x1x96x576_S2x1x96x576_0_0_0_0,
      k0_pay1 (k0_pay3 (View.readAt (Elt F) arg3.view (Rect.unit ![0, 0, 0] S1x1024x96.size inb_S1x1024x96_S1x1024x96_0_0_0).toLoadRect (h3.unread x1)))
        (k0_pay4 (View.readAt (Elt F) arg2.view (Rect.unit ![0, 0, 0, 0] S2x1x96x576.size inb_S2x1x96x576_S2x1x96x576_0_0_0_0).toLoadRect (h2.unread x0)))
        (k0_pay9 (View.readAt (Elt F) arg2.view (Rect.unit ![0, 0, 0, 0] S2x1x96x576.size inb_S2x1x96x576_S2x1x96x576_0_0_0_0).toLoadRect (h2.unread x0))
          (View.readAt (Elt F) arg3.view (Rect.unit ![0, 0, 0] S1x1024x96.size inb_S1x1024x96_S1x1024x96_0_0_0).toLoadRect (h3.unread x1)))
        (View.readAt (Elt F) arg4.view (Rect.unit ![0, 0] S1x1024.size inb_S1x1024_S1x1024_0_0).toLoadRect (h4.unread x2))⟩] :
      List (View.Piece (Elt F) S2x1x96x576 .f32)) = _
  rw [View.canon_unit_zero hz4, ld0, ld1, ld2]

/-- The second output's buffer ends with the probabilities of the loaded blocks. -/
theorem out4_eq : out0_A_4 c i arg2 h2 arg3 h3 arg4 h4 arg5 h5 arg6 h6 arg7 h7 x0 x1 x2 = k0_pay8 x0 x1 := by
  unfold out0_A_4
  rw [View.read_writes_junk_eq_canon]
  show View.canon ([⟨Rect.unit ![0, 0, 0] S2x576x1024.size inb_S2x576x1024_S2x576x1024_0_0_0,
      k0_pay8 (View.readAt (Elt F) arg2.view (Rect.unit ![0, 0, 0, 0] S2x1x96x576.size inb_S2x1x96x576_S2x1x96x576_0_0_0_0).toLoadRect (h2.unread x0))
          (View.readAt (Elt F) arg3.view (Rect.unit ![0, 0, 0] S1x1024x96.size inb_S1x1024x96_S1x1024x96_0_0_0).toLoadRect (h3.unread x1))⟩] :
      List (View.Piece (Elt F) S2x576x1024 .f32)) = _
  rw [View.canon_unit_zero hz3, ld0, ld1]

/-- The third output's one word ends with the scaled loss of the loaded blocks. -/
theorem out5_eq : out0_A_5 c i arg2 h2 arg3 h3 arg4 h4 arg5 h5 arg6 h6 arg7 h7 x0 x1 x2 = fun _ => k0_pay2 (k0_pay6 x0 x1) := by
  unfold out0_A_5
  rw [View.read_writes_junk_eq_canon]
  show View.canon ([⟨Rect.unit ![0, 0, 0, 0] S1x1x1x1.size inb_S1x1x1x1_S1x1x1x1_0_0_0_0,
      fun _ => k0_pay2 (k0_pay6 (View.readAt (Elt F) arg2.view (Rect.unit ![0, 0, 0, 0] S2x1x96x576.size inb_S2x1x96x576_S2x1x96x576_0_0_0_0).toLoadRect (h2.unread x0))
          (View.readAt (Elt F) arg3.view (Rect.unit ![0, 0, 0] S1x1024x96.size inb_S1x1024x96_S1x1024x96_0_0_0).toLoadRect (h3.unread x1)))⟩] :
      List (View.Piece (Elt F) S1x1x1x1 .f32)) = _
  rw [View.canon_unit_zero hz4, ld0, ld1]
  rfl

end Cert.Vq

end
-- ==== Proof.Vq.Arrays.lean ====
/- Hand-written, untrusted: THE KERNEL'S THREE ARRAYS AFTER THE REGION, as functions of the arguments: each grid point's
   input blocks are rows and codes of the arguments, and the written blocks tile each array. -/
module

public import proofs.«01_k».proof.Proof.Vq.Spec
public import proofs.«01_k».proof.Proof.Vq.Blocks
public import Idealize.ShloMosaic.Lib.Pipeline.ValueKit
public import Idealize.ShloMosaic.Lib.StableHlo.ReadAt

@[expose] public section

set_option maxRecDepth 16384

noncomputable section

namespace Cert.Vq

open Cert.KernelIdeal Cert.KernelIdeal.Gen Idealize.ShloMosaic Idealize.ShloMosaic.TcCoe Idealize.SL.Sem
open scoped BigOperators

variable (m : (ℓ : Loc nD τ sig) → Buf (Elt Ideal) ℓ) (c : Dev nD)

/-- The activations as launched. -/
abbrev argX : Vec Ideal S16x384x24x24 .f32 := m ((c : Thread nD τ).loc main_arg0)
/-- The codebooks as launched. -/
abbrev argC : Vec Ideal S4x1024x96 .f32 := m ((c : Thread nD τ).loc main_arg1)

/-! ## The windows' places: point `t` is group `t / 8`, image pair `t % 8` -/

theorem index0 : ∀ t : Fin cfg0.N, win0_0.index t = ![t.val % 8, t.val / 8, 0, 0] := (by decide +kernel : ∀ t : Fin grid0.N, _)
theorem index1 : ∀ t : Fin cfg0.N, win0_1.index t = ![t.val / 8, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val % 8, t.val / 8, 0, 0] := (by decide +kernel : ∀ t : Fin grid0.N, _)
theorem index4 : ∀ t : Fin cfg0.N, win0_4.index t = ![t.val % 8, 0, t.val / 8] := (by decide +kernel : ∀ t : Fin grid0.N, _)
theorem index5 : ∀ t : Fin cfg0.N, win0_5.index t = ![t.val / 8, t.val % 8, 0, 0] := (by decide +kernel : ∀ t : Fin grid0.N, _)

/-! ## The arrays the region finds -/

/-- The first array is the activations with channels split by group and pixels joined. -/
theorem V_v0 (img : Fin 16) (g : Fin 4) (k : Fin 96) (p : Fin 576) : V m c main_call0_v0 (ix4 img g k p)
    = argX m c (ix4 img (⟨g.val * 96 + k.val, by omega⟩ : Fin 384) (⟨p.val / 24, by omega⟩ : Fin 24) (⟨p.val % 24, by omega⟩ : Fin 24)) := by
  unfold V V0
  after_reads_at

/-- The third array is the codes' indices as numbers. -/
theorem V_v1 (j : Fin 1024) : V m c main_call0_v1 (ix2 0 j) = ((j.val : ℝ) : EReal) := by
  unfold V V0
  after_reads_at
  show (((BitVec.ofNat 32 j.val).toInt : ℝ) : EReal) = _
  rw [BitVec.toInt_eq_toNat_of_lt (by rw [BitVec.toNat_ofNat]; omega), BitVec.toNat_ofNat, Nat.mod_eq_of_lt (by omega)]
  norm_cast

/-! ## The blocks -/

/-- The rows of point `t`'s first block are rows of its group. -/
theorem brow_eq (t : Fin cfg0.N) (r : Fin 1152) (g : Fin 4) (hg : g.val = t.val / 8) (n : Fin 9216)
    (hn : n.val = t.val % 8 * 1152 + r.val) : brow (iblk m c 0 t) r = zrow (argX m c) g n := by
  funext k
  unfold brow zrow
  rw [show iblk m c 0 t (ix4 (⟨r.val / 576, by omega⟩ : Fin 2) 0 k (⟨r.val % 576, by omega⟩ : Fin 576))
    = V m c main_call0_v0 (ix4 (⟨t.val % 8 * 2 + r.val / 576, by omega⟩ : Fin 16) g k (⟨r.val % 576, by omega⟩ : Fin 576)) from ?_, V_v0]
  · congr 1
    funext a; apply Fin.ext
    match a with
    | ⟨0, _⟩ => show t.val % 8 * 2 + r.val / 576 = n.val / 576; omega
    | ⟨1, _⟩ => rfl
    | ⟨2, _⟩ => show r.val % 576 / 24 = n.val % 576 / 24; omega
    | ⟨3, _⟩ => show r.val % 576 % 24 = n.val % 24; omega
  · blk_simp [iblk]
    congr 1
    blk_ext [index0 t]

/-- The codes of point `t`'s second block are its group's. -/
theorem bcode_eq (t : Fin cfg0.N) (g : Fin 4) (hg : g.val = t.val / 8) : bcode (iblk m c 1 t) = code (argC m c) g := by
  funext j k
  unfold bcode code
  rw [show argC m c = V m c main_arg1 from (V_main_arg1 m c).symm]
  blk_simp [iblk]
  congr 1
  blk_ext [index1 t]

/-- Point `t`'s third block holds the codes' indices as numbers. -/
theorem iblk2_eq (t : Fin cfg0.N) (j : Fin 1024) : iblk m c 2 t (ix2 0 j) = ((j.val : ℝ) : EReal) := by
  rw [← V_v1 m c j]
  blk_simp [iblk]
  congr 1
  blk_ext [index2 t]

/-! ## The written blocks -/

theorem lt_grid (t : Fin cfg0.N) : t.val < 32 := t.isLt

/-- The first array after the region. -/
theorem final3 : (dats m 0 c).arrAt 3 cfg0.N = arr3 (argX m c) (argC m c) := by
  refine (dats m 0 c).arrAt_eq_of_covers 3 _ (by decide +kernel) fun t _ y => ?_
  have ht := lt_grid t
  blk_simp
  rw [after0_3]
  unfold outsAt0
  dsimp only
  rw [out3_eq]
  obtain ⟨a, u, k, p, rfl⟩ : ∃ (a : Fin 2) (u : Fin 1) (k : Fin 96) (p : Fin 576), y = ix4 a u k p := ⟨y 0, y 1, y 2, y 3, eq_ix4 y⟩
  have hu : u.val = 0 := by omega
  rw [pay1_apply _ _ _ (iblk2_eq m c t) a u k p,
    brow_eq m c t ⟨a.val * 576 + p.val, by omega⟩ ⟨t.val / 8, by omega⟩ rfl ⟨(t.val % 8 * 2 + a.val) * 576 + p.val, by omega⟩
      (by show (t.val % 8 * 2 + a.val) * 576 + p.val = t.val % 8 * 1152 + (a.val * 576 + p.val); omega),
    bcode_eq m c t ⟨t.val / 8, by omega⟩ rfl]
  have e : (win0_3.blk t).view.emb (ix4 a u k p) = ix4 (⟨t.val % 8 * 2 + a.val, by omega⟩ : Fin 16) (⟨t.val / 8, by omega⟩ : Fin 4) k p := by
    blk_ext [index3 t]
  rw [e]
  rfl

/-- The second array after the region. -/
theorem final4 : (dats m 0 c).arrAt 4 cfg0.N = arr4 (argX m c) (argC m c) := by
  refine (dats m 0 c).arrAt_eq_of_covers 4 _ (by decide +kernel) fun t _ y => ?_
  have ht := lt_grid t
  blk_simp
  rw [after0_4]
  unfold outsAt0
  dsimp only
  rw [out4_eq]
  obtain ⟨a, p, j, rfl⟩ : ∃ (a : Fin 2) (p : Fin 576) (j : Fin 1024), y = ix3 a p j := ⟨y 0, y 1, y 2, eq_ix3 y⟩
  rw [pay8_apply,
    brow_eq m c t ⟨a.val * 576 + p.val, by omega⟩ ⟨t.val / 8, by omega⟩ rfl ⟨(t.val % 8 * 2 + a.val) * 576 + p.val, by omega⟩
      (by show (t.val % 8 * 2 + a.val) * 576 + p.val = t.val % 8 * 1152 + (a.val * 576 + p.val); omega),
    bcode_eq m c t ⟨t.val / 8, by omega⟩ rfl]
  have e : (win0_4.blk t).view.emb (ix3 a p j) = ix3 (⟨t.val % 8 * 2 + a.val, by omega⟩ : Fin 16) p (⟨t.val / 8 * 1024 + j.val, by omega⟩ : Fin 4096) := by
    blk_ext [index4 t]
  rw [e]
  have eg : (⟨t.val / 8, by omega⟩ : Fin 4) = ⟨(t.val / 8 * 1024 + j.val) / 1024, by omega⟩ := Fin.ext (by show t.val / 8 = (t.val / 8 * 1024 + j.val) / 1024; omega)
  have ej : j = ⟨(t.val / 8 * 1024 + j.val) % 1024, by omega⟩ := Fin.ext (by show j.val = (t.val / 8 * 1024 + j.val) % 1024; omega)
  show _ = kprob (zrow _ ⟨(t.val / 8 * 1024 + j.val) / 1024, _⟩ ⟨(t.val % 8 * 2 + a.val) * 576 + p.val, _⟩)
    (code _ ⟨(t.val / 8 * 1024 + j.val) / 1024, _⟩) ⟨(t.val / 8 * 1024 + j.val) % 1024, _⟩
  rw [← eg, ← ej]

/-- The third array after the region. -/
theorem final5 : (dats m 0 c).arrAt 5 cfg0.N = arr5 (argX m c) (argC m c) := by
  refine (dats m 0 c).arrAt_eq_of_covers 5 _ (by decide +kernel) fun t _ y => ?_
  have ht := lt_grid t
  blk_simp
  rw [after0_5]
  unfold outsAt0
  dsimp only
  rw [out5_eq, pay2_apply, bcode_eq m c t ⟨t.val / 8, by omega⟩ rfl]
  have e : (win0_5.blk t).view.emb y = ix4 (⟨t.val / 8, by omega⟩ : Fin 4) (⟨t.val % 8, by omega⟩ : Fin 8) 0 0 := by
    blk_ext [index5 t]
  rw [e]
  show _ = pairLoss _ _ (⟨t.val / 8, by omega⟩ : Fin 4) (⟨t.val % 8, by omega⟩ : Fin 8) * scale
  unfold pairLoss
  refine congrArg (· * scale) (Finset.sum_congr rfl fun r _ => ?_)
  rw [brow_eq m c t r ⟨t.val / 8, by omega⟩ rfl ⟨t.val % 8 * 1152 + r.val, by omega⟩ rfl]

end Cert.Vq

end
-- ==== Proof.Vq.Kernel.lean ====
/- Hand-written, untrusted: THE KERNEL PROGRAM'S RUN at the extended reals: the host lines after the region reshape the first
   two arrays and add the third one's entries. -/
module

public import proofs.«01_k».proof.Proof.Vq.Arrays

@[expose] public section

set_option maxRecDepth 16384

noncomputable section

namespace Cert.Vq

open Cert.KernelIdeal Cert.KernelIdeal.Gen Idealize.ShloMosaic Idealize.ShloMosaic.TcCoe Idealize.SL.Sem
open scoped BigOperators

section Results

variable (X : Vec Ideal S16x384x24x24 .f32) (C : Vec Ideal S4x1024x96 .f32)

/-- The quantized activations in the argument's layout. -/
def outZq : Vec Ideal S16x384x24x24 .f32 := shapeCast S16x384x24x24 (arr3 X C) shapeCasts_S16x4x96x576_S16x384x24x24

/-- The probabilities, one row for each pixel. -/
def outProb : Vec Ideal S9216x4096 .f32 := shapeCast S9216x4096 (arr4 X C) shapeCasts_S16x576x4096_S9216x4096

/-- The loss: the scaled sums of the groups' image pairs, added. -/
def outLoss : Vec Ideal S_ .f32 := fun _ => ∑ g : Fin 4, ∑ b : Fin 8, pairLoss X C g b * scale

/-- An entry of the quantized activations. -/
theorem outZq_apply (img : Fin 16) (ch : Fin 384) (h w : Fin 24) : outZq X C (ix4 img ch h w)
    = zq X C ⟨ch.val / 96, by omega⟩ ⟨img.val * 576 + (h.val * 24 + w.val), by omega⟩ ⟨ch.val % 96, by omega⟩ := by
  unfold outZq
  pointwise
  show zq X C ⟨ch.val / 96, _⟩ ⟨img.val * 576 + (h.val * 24 + w.val), _⟩ ⟨ch.val % 96, _⟩ = _
  rfl

/-- An entry of the probabilities. -/
theorem outProb_apply (n : Fin 9216) (j : Fin 4096) : outProb X C (ix2 n j)
    = kprob (zrow X ⟨j.val / 1024, by omega⟩ n) (code C ⟨j.val / 1024, by omega⟩) ⟨j.val % 1024, by omega⟩ := by
  unfold outProb
  pointwise
  have e : n = ⟨n.val / 576 * 576 + n.val % 576, by omega⟩ := Fin.ext (by show n.val = n.val / 576 * 576 + n.val % 576; omega)
  show kprob (zrow X ⟨j.val / 1024, _⟩ ⟨n.val / 576 * 576 + n.val % 576, _⟩) (code C ⟨j.val / 1024, _⟩) ⟨j.val % 1024, _⟩ = _
  rw [← e]

/-- An index of the third array is a group and an image pair. -/
def pairEquiv : Fin 4 × Fin 8 ≃ S4x8x1x1.Idx where
  toFun p := ix4 p.1 p.2 0 0
  invFun i := (i 0, i 1)
  left_inv _ := rfl
  right_inv i := funext fun a => match a with
    | ⟨0, _⟩ => rfl
    | ⟨1, _⟩ => rfl
    | ⟨2, _⟩ => Fin.ext (by have h : (i 2).val < 1 := (i 2).isLt; show 0 = (i 2).val; omega)
    | ⟨3, _⟩ => Fin.ext (by have h : (i 3).val < 1 := (i 3).isLt; show 0 = (i 3).val; omega)

/-- The host's sum of the third array over all its axes is the loss. -/
theorem loss_eq (i : S_.Idx) : Host.reduceAdd (F := Ideal) (arr5 X C) (constant S_ .f32 0x00000000#32) reducesTo_S4x8x1x1_S_d0_1_2_3 h_S_ i = outLoss X C i := by
  unfold outLoss
  pointwise
  rw [Ideal.hostReduceAdd_total _ (fun b => b.elim0), zero_add, ← Fintype.sum_prod_type']
  refine (Finset.sum_equiv pairEquiv.symm (by simp) fun p _ => ?_)
  rfl

end Results

variable (m : (ℓ : Loc nD τ sig) → Buf (Elt Ideal) ℓ) (ρ : Dev nD → PrngReg)

theorem arr_inj : Function.Injective (Pipeline.arrRef spec0) := by decide

/-- The contents in which the host lines after the region start: the region's arrays over what the region found. -/
abbrev endV (c : Dev nD) : Valuation τ sig (Elt Ideal) :=
  Pipeline.withArrays (cfgs 0).spec c (V0 m c) fun w => (dats m 0 c).arrAt w (cfgs 0).N

theorem endV3 (c : Dev nD) : endV m c (Proc.devRef .tc main_call0_v2_0) = arr3 (argX m c) (argC m c) :=
  (Pipeline.withArrays_arr spec0 arr_inj c _ _ 3).trans (final3 m c)
theorem endV4 (c : Dev nD) : endV m c (Proc.devRef .tc main_call0_v2_1) = arr4 (argX m c) (argC m c) :=
  (Pipeline.withArrays_arr spec0 arr_inj c _ _ 4).trans (final4 m c)
theorem endV5 (c : Dev nD) : endV m c (Proc.devRef .tc main_call0_v2_2) = arr5 (argX m c) (argC m c) :=
  (Pipeline.withArrays_arr spec0 arr_inj c _ _ 5).trans (final5 m c)

/-- The first result: the reshaped first array. -/
theorem tail_zq (c : Dev nD) : Pipeline.afterTail₀ cfgs (dats m) 0 (V0 m) [hostOps1] c main_v0_0 = outZq (argX m c) (argC m c) := by
  unfold Pipeline.afterTail₀ outZq
  rw [show ([hostOps1].flatten : List (HloOp τ sig (Elt Ideal))) = hostOps1 from rfl, ← endV3 m c]
  unfold hostOps1
  after_results
  rfl

/-- The third result: the reshaped second array. -/
theorem tail_prob (c : Dev nD) : Pipeline.afterTail₀ cfgs (dats m) 0 (V0 m) [hostOps1] c main_v0_2 = outProb (argX m c) (argC m c) := by
  unfold Pipeline.afterTail₀ outProb
  rw [show ([hostOps1].flatten : List (HloOp τ sig (Elt Ideal))) = hostOps1 from rfl, ← endV4 m c]
  unfold hostOps1
  after_results
  rfl

/-- The second result: the third array's sum. -/
theorem tail_loss (c : Dev nD) : Pipeline.afterTail₀ cfgs (dats m) 0 (V0 m) [hostOps1] c main_v0_1 = outLoss (argX m c) (argC m c) := by
  rw [← funext (loss_eq (argX m c) (argC m c)), ← endV5 m c]
  unfold Pipeline.afterTail₀
  rw [show ([hostOps1].flatten : List (HloOp τ sig (Elt Ideal))) = hostOps1 from rfl]
  unfold hostOps1
  after_results
  rfl

/-- The kernel program's run: its three results as functions of its arguments, which end as launched. -/
theorem kernel_run : θ_run defs (onTc (τ := τ) (main (F := Ideal))) ⟨m, fun _ => 0, ρ⟩ fun r => ∀ c : Dev nD,
      r.2.mem ((c.tc : Thread nD τ).loc main_v0_0) = outZq (argX m c) (argC m c)
      ∧ r.2.mem ((c.tc : Thread nD τ).loc main_v0_1) = outLoss (argX m c) (argC m c)
      ∧ r.2.mem ((c.tc : Thread nD τ).loc main_v0_2) = outProb (argX m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 (by decide) (by decide))).trans (tail_zq m c),
      ((h c).2 main_v0_1 (Pipeline.mem_restRefs_of main_v0_1 (by decide) (by decide))).trans (tail_loss m c),
      ((h c).2 main_v0_2 (Pipeline.mem_restRefs_of main_v0_2 (by decide) (by decide))).trans (tail_prob m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.Vq

end
-- ==== Proof.Vq.Equation.lean ====
/- Hand-written, untrusted: THE EQUATION: where in every row each distance is the row's least or above it by at least
   `2 ^ -24`, the kernel's three results are the reference's. -/
module

public import proofs.«01_k».proof.Proof.Vq.Reference
public import proofs.«01_k».proof.Proof.Vq.Kernel

@[expose] public section

set_option maxRecDepth 16384

noncomputable section

namespace Cert.Vq

open Idealize.ShloMosaic Cert.ReferenceIdeal
open scoped BigOperators

variable (X : FVec Ideal S16x384x24x24 .f32) (C : FVec Ideal S4x1024x96 .f32)

/-- No row has a distance above its least by less than `2 ^ -24`. -/
def AllApart : Prop := ∀ (g : Fin 4) (n : Fin 9216), Apart (dist (zrow X g n) (code C g))

/-! ## One group -/

section OneGroup

variable {X C} (g : Fin 4) (z : FVec Ideal S9216x96 .f32) (e : FVec Ideal S1024x96 .f32)
  (hz : ∀ n k, z (ix2 n k) = zrow X g n k) (he : ∀ j k, e (ix2 j k) = code C g j k)

include hz he

/-- The reference's code for a row is the code of the row's selected index. -/
theorem quant_eq (n : Fin 9216) (k : Fin 96) (s : Fin 1024) (hs : IsSel (dist (zrow X g n) (code C g)) s) :
    Group.quant z e (ix2 n k) = code C g s k := by
  have ez : (fun k => z (ix2 n k)) = zrow X g n := funext fun k => hz n k
  have ee : (fun j k => e (ix2 j k)) = code C g := funext fun j => funext fun k => he j k
  rw [Group.quant_apply z e n k s (by rw [ez, ee]; exact hs), he]

/-- A group's entry of the first result. -/
theorem moved_eq (hA : AllApart X C) (n : Fin 9216) (k : Fin 96) : moved z e (ix2 n k) = zq X C g n k := by
  obtain ⟨s, hs⟩ := exists_sel (dist (zrow X g n) (code C g)) 0
  show z (ix2 n k) + (Group.quant z e (ix2 n k) - z (ix2 n k)) = _
  rw [quant_eq g z e hz he n k s hs, hz]
  unfold zq kpick
  rw [onehot_sum (by norm_num) (hA g n) hs]

/-- A group's entry of the third result. -/
theorem group_prob_eq (hA : AllApart X C) (n : Fin 9216) (j : Fin 1024) :
    Group.prob z e (ix2 n j) = kprob (zrow X g n) (code C g) j := by
  have ez : (fun k => z (ix2 n k)) = zrow X g n := funext fun k => hz n k
  have ee : (fun j k => e (ix2 j k)) = code C g := funext fun j => funext fun k => he j k
  rw [Group.prob_apply, ez, ee]
  exact (prob_eq (hA g n) j).symm

/-- The squared differences of a row and its code, either way round, add to the row's least distance. -/
theorem row_sq (hA : AllApart X C) (n : Fin 9216) :
    ∑ k : Fin 96, (Group.quant z e (ix2 n k) - z (ix2 n k)) * (Group.quant z e (ix2 n k) - z (ix2 n k))
        = low (dist (zrow X g n) (code C g))
      ∧ ∑ k : Fin 96, (z (ix2 n k) - Group.quant z e (ix2 n k)) * (z (ix2 n k) - Group.quant z e (ix2 n k))
        = low (dist (zrow X g n) (code C g)) := by
  obtain ⟨s, hs⟩ := exists_sel (dist (zrow X g n) (code C g)) 0
  obtain ⟨x, y, hx, hy, hl⟩ := low_eq_sum_sq (hA g n) hs
  rw [hl, coe_sum]
  constructor
  · refine Finset.sum_congr rfl fun k _ => ?_
    rw [quant_eq g z e hz he n k s hs, hz, hx, hy, ← EReal.coe_sub, ← EReal.coe_mul]
  · refine Finset.sum_congr rfl fun k _ => ?_
    rw [quant_eq g z e hz he n k s hs, hz, hx, hy, ← EReal.coe_sub, ← EReal.coe_mul]
    congr 1
    ring

/-- A group's loss: five quarters of the mean of its rows' least distances. -/
theorem group_loss_eq (hA : AllApart X C) (t : ℝ) (ht : ∑ n : Fin 9216, low (dist (zrow X g n) (code C g)) = (t : EReal)) (i : S_.Idx) :
    Group.loss z e i = ((t / 884736 + 1 / 4 * (t / 884736) : ℝ) : EReal) := by
  have h1 : Group.mean (subf (Group.quant z e) z) i = ((t / 884736 : ℝ) : EReal) := by
    rw [Group.mean_apply]
    show Ideal.div (∑ n : Fin 9216, ∑ k : Fin 96, (Group.quant z e (ix2 n k) - z (ix2 n k)) * (Group.quant z e (ix2 n k) - z (ix2 n k))) _ = _
    rw [Finset.sum_congr rfl fun n _ => (row_sq g z e hz he hA n).1, ht, Ideal.div_coe (by norm_num), ← EReal.coe_mul, div_eq_mul_inv, one_mul, ← div_eq_mul_inv]
  have h2 : Group.mean (subf z (Group.quant z e)) i = ((t / 884736 : ℝ) : EReal) := by
    rw [Group.mean_apply]
    show Ideal.div (∑ n : Fin 9216, ∑ k : Fin 96, (z (ix2 n k) - Group.quant z e (ix2 n k)) * (z (ix2 n k) - Group.quant z e (ix2 n k))) _ = _
    rw [Finset.sum_congr rfl fun n _ => (row_sq g z e hz he hA n).2, ht, Ideal.div_coe (by norm_num), ← EReal.coe_mul, div_eq_mul_inv, one_mul, ← div_eq_mul_inv]
  show Group.mean (subf (Group.quant z e) z) i + Ideal.ofBits .f32 0x3E800000#32 * Group.mean (subf z (Group.quant z e)) i = _
  rw [h1, h2, Group.ofBits_quarter, ← EReal.coe_mul, ← EReal.coe_add]

end OneGroup

/-! ## The rows and codes of the four groups -/

theorem gz0_apply (n : Fin 9216) (k : Fin 96) : gz0 X (ix2 n k) = zrow X 0 n k := gz_apply X 0 _ 0 rfl n k
theorem gz1_apply (n : Fin 9216) (k : Fin 96) : gz1 X (ix2 n k) = zrow X 1 n k := gz_apply X 96 _ 1 rfl n k
theorem gz2_apply (n : Fin 9216) (k : Fin 96) : gz2 X (ix2 n k) = zrow X 2 n k := gz_apply X 192 _ 2 rfl n k
theorem gz3_apply (n : Fin 9216) (k : Fin 96) : gz3 X (ix2 n k) = zrow X 3 n k := gz_apply X 288 _ 3 rfl n k
theorem ge0_apply (j : Fin 1024) (k : Fin 96) : ge0 C (ix2 j k) = code C 0 j k := ge_apply C 0 _ 0 rfl j k
theorem ge1_apply (j : Fin 1024) (k : Fin 96) : ge1 C (ix2 j k) = code C 1 j k := ge_apply C 1 _ 1 rfl j k
theorem ge2_apply (j : Fin 1024) (k : Fin 96) : ge2 C (ix2 j k) = code C 2 j k := ge_apply C 2 _ 2 rfl j k
theorem ge3_apply (j : Fin 1024) (k : Fin 96) : ge3 C (ix2 j k) = code C 3 j k := ge_apply C 3 _ 3 rfl j k

variable {X C}

/-! ## The first result -/

theorem zq_congr {g g' : Fin 4} {k k' : Fin 96} (n : Fin 9216) (hg : g.val = g'.val) (hk : k.val = k'.val) :
    zq X C g n k = zq X C g' n k' := by
  rw [Fin.ext hg, Fin.ext hk]

theorem zq_eq (hA : AllApart X C) : outZq X C = refZq X C := by
  funext i
  obtain ⟨img, ch, h, w, rfl⟩ : ∃ (img : Fin 16) (ch : Fin 384) (h w : Fin 24), i = ix4 img ch h w := ⟨i 0, i 1, i 2, i 3, eq_ix4 i⟩
  rw [outZq_apply]
  unfold refZq
  pointwise
  have hch := ch.isLt
  split
  · rw [back_apply, moved_eq 0 _ _ (gz0_apply X) (ge0_apply C) hA]
    exact zq_congr _ (by show ch.val / 96 = 0; omega) (by show ch.val % 96 = ch.val; omega)
  split
  · rw [back_apply, moved_eq 1 _ _ (gz1_apply X) (ge1_apply C) hA]
    exact zq_congr _ (by show ch.val / 96 = 1; omega) (by show ch.val % 96 = ch.val - 96; omega)
  split
  · rw [back_apply, moved_eq 2 _ _ (gz2_apply X) (ge2_apply C) hA]
    exact zq_congr _ (by show ch.val / 96 = 2; omega) (by show ch.val % 96 = ch.val - 96 - 96; omega)
  · rw [back_apply, moved_eq 3 _ _ (gz3_apply X) (ge3_apply C) hA]
    exact zq_congr _ (by show ch.val / 96 = 3; omega) (by show ch.val % 96 = ch.val - 96 - 96 - 96; omega)

/-! ## The third result -/

theorem kprob_congr {g g' : Fin 4} {j j' : Fin 1024} (n : Fin 9216) (hg : g.val = g'.val) (hj : j.val = j'.val) :
    kprob (zrow X g n) (code C g) j = kprob (zrow X g' n) (code C g') j' := by
  rw [Fin.ext hg, Fin.ext hj]

theorem prob_result_eq (hA : AllApart X C) : outProb X C = refProb X C := by
  funext i
  obtain ⟨n, j, rfl⟩ : ∃ (n : Fin 9216) (j : Fin 4096), i = ix2 n j := ⟨i 0, i 1, eq_ix2 i⟩
  rw [outProb_apply]
  unfold refProb
  pointwise
  have hj := j.isLt
  split
  · rw [group_prob_eq 0 _ _ (gz0_apply X) (ge0_apply C) hA]
    exact kprob_congr _ (by show j.val / 1024 = 0; omega) (by show j.val % 1024 = j.val; omega)
  split
  · rw [group_prob_eq 1 _ _ (gz1_apply X) (ge1_apply C) hA]
    exact kprob_congr _ (by show j.val / 1024 = 1; omega) (by show j.val % 1024 = j.val - 1024; omega)
  split
  · rw [group_prob_eq 2 _ _ (gz2_apply X) (ge2_apply C) hA]
    exact kprob_congr _ (by show j.val / 1024 = 2; omega) (by show j.val % 1024 = j.val - 1024 - 1024; omega)
  · rw [group_prob_eq 3 _ _ (gz3_apply X) (ge3_apply C) hA]
    exact kprob_congr _ (by show j.val / 1024 = 3; omega) (by show j.val % 1024 = j.val - 1024 - 1024 - 1024; omega)

/-! ## The second result -/

/-- The rows of the eight image pairs are all the rows. -/
theorem sum_pairs {M : Type} [AddCommMonoid M] (f : Fin 9216 → M) :
    ∑ b : Fin 8, ∑ r : Fin 1152, f ⟨b.val * 1152 + r.val, by omega⟩ = ∑ n : Fin 9216, f n := by
  rw [← Fintype.sum_prod_type']
  refine Fintype.sum_equiv (finProdFinEquiv (m := 8) (n := 1152)) _ _ fun p => congrArg f (Fin.ext ?_)
  show p.1.val * 1152 + p.2.val = p.2.val + 1152 * p.1.val
  omega

theorem loss_result_eq (hA : AllApart X C) : outLoss X C = refLoss X C := by
  funext i
  choose l hl using fun g n => low_real (hA g n) 0
  have ht : ∀ g : Fin 4, ∑ n : Fin 9216, low (dist (zrow X g n) (code C g)) = ((∑ n, l g n : ℝ) : EReal) := fun g => by
    rw [coe_sum]
    exact Finset.sum_congr rfl fun n _ => hl g n
  have hk : ∀ g : Fin 4, ∑ b : Fin 8, pairLoss X C g b * scale = (((∑ n, l g n) * (5 / 14155776) : ℝ) : EReal) := fun g => by
    unfold pairLoss scale
    rw [← sum_pairs (l g), Finset.sum_mul, coe_sum]
    refine Finset.sum_congr rfl fun b _ => ?_
    rw [EReal.coe_mul, coe_sum]
    congr 1
    exact Finset.sum_congr rfl fun r _ => hl g _
  show ∑ g : Fin 4, ∑ b : Fin 8, pairLoss X C g b * scale
    = Ideal.div (Ideal.ofBits .f32 0x00000000#32 + Group.loss (gz0 X) (ge0 C) i + Group.loss (gz1 X) (ge1 C) i
        + Group.loss (gz2 X) (ge2 C) i + Group.loss (gz3 X) (ge3 C) i) (Ideal.ofBits .f32 0x40800000#32)
  rw [group_loss_eq 0 _ _ (gz0_apply X) (ge0_apply C) hA _ (ht 0), group_loss_eq 1 _ _ (gz1_apply X) (ge1_apply C) hA _ (ht 1),
    group_loss_eq 2 _ _ (gz2_apply X) (ge2_apply C) hA _ (ht 2), group_loss_eq 3 _ _ (gz3_apply X) (ge3_apply C) hA _ (ht 3),
    Group.ofBits_four, Ideal.ofBits_zero_f32, zero_add, Fin.sum_univ_four, hk, hk, hk, hk]
  rw [Ideal.div_coe (by norm_num)]
  simp only [← EReal.coe_add, ← EReal.coe_mul]
  congr 1
  ring

end Cert.Vq

end
-- ==== Proof.Vq.Pre.lean ====
/- Hand-written, untrusted: WHAT THE PRECONDITION SAYS: its array of flags is all ones only where every distance of every
   row is the row's least or lies at least `2 ^ -24` above it. -/
module

public import proofs.«01_k».proof.Pre_no_near_tie
public import proofs.«01_k».proof.Proof.Gen.Pre_no_near_tie
public import proofs.«01_k».proof.Proof.Vq.Equation

@[expose] public section

set_option maxRecDepth 16384

noncomputable section

namespace Cert.Vq

open Idealize.ShloMosaic Cert.ReferenceIdeal Cert.ReferenceIdeal.Gen

/-- Each distance less its row's least. -/
def rise (d : FVec Ideal S9216x1024 .f32) : FVec Ideal S9216x1024 .f32 :=
  subf d (broadcastInDim S9216x1024 ![0, 1] bcast_S9216x1_S9216x1024_0_1 (broadcastInDim S9216x1 ![0] bcast_S9216_S9216x1_0 (Host.reduce FloatOps.minimumf d (constant S_ .f32 0x7F800000#32) reducesTo_S9216x1024_S9216_d1 h_S_)))

/-- One group's flags: a distance's rise is zero or at least `2 ^ -24`. -/
def flags (x : FVec Ideal S9216x1024 .f32) : IVec S9216x1024 1 :=
  ori (cmpf .oeq x (broadcastInDim S9216x1024 ![] bcast_S_S9216x1024 (constant S_ .f32 0x00000000#32)))
    (cmpf .oge x (broadcastInDim S9216x1024 ![] bcast_S_S9216x1024 (constant S_ .f32 0x33800000#32)))

variable (X : FVec Ideal S16x384x24x24 .f32) (C : FVec Ideal S4x1024x96 .f32)

/-- The precondition's array is the four groups' flags side by side. -/
theorem pre_eq : Cert.Pre_no_near_tie.fn X C = concatenate S9216x4096 1 [⟨S9216x1024, flags (rise (Group.dmat (gz0 X) (ge0 C)))⟩,
    ⟨S9216x1024, flags (rise (Group.dmat (gz1 X) (ge1 C)))⟩, ⟨S9216x1024, flags (rise (Group.dmat (gz2 X) (ge2 C)))⟩,
    ⟨S9216x1024, flags (rise (Group.dmat (gz3 X) (ge3 C)))⟩]
    concatenates_S9216x1024_S9216x1024_S9216x1024_S9216x1024_S9216x4096_d1 := rfl

/-- The pattern `0x33800000` is the gap, `2 ^ -24`. -/
theorem ofBits_gap : Ideal.ofBits .f32 0x33800000#32 = gap := by
  unfold gap
  simp [Ideal.ofBits, Ideal.ieee, -EReal.coe_mul]; norm_num

/-- A distance's rise above its row's least. -/
theorem rise_apply (d : FVec Ideal S9216x1024 .f32) (n : Fin 9216) (j : Fin 1024) :
    rise d (ix2 n j) = d (ix2 n j) - low (fun j => d (ix2 n j)) := by
  unfold rise
  pointwise
  simp only [ofBits_top]
  rfl

/-- A flag that is set: the entry is zero or at least the gap. -/
theorem of_flag (x : FVec Ideal S9216x1024 .f32) (n : Fin 9216) (j : Fin 1024) (h : flags x (ix2 n j) = 1#1) :
    x (ix2 n j) = 0 ∨ gap ≤ x (ix2 n j) := by
  unfold flags at h
  revert h
  pointwise
  rw [ofBits_gap]
  intro h
  by_contra hn
  rw [not_or] at hn
  simp [hn.1, hn.2, IntOp.ori] at h

/-- Four arrays side by side hold ones only where each of them does. -/
theorem ones_of_cat (f0 f1 f2 f3 : IVec S9216x1024 1)
    (h : concatenate S9216x4096 1 [⟨S9216x1024, f0⟩, ⟨S9216x1024, f1⟩, ⟨S9216x1024, f2⟩, ⟨S9216x1024, f3⟩]
      concatenates_S9216x1024_S9216x1024_S9216x1024_S9216x1024_S9216x4096_d1 = fun _ => 1#1) (n : Fin 9216) (j : Fin 1024) :
    f0 (ix2 n j) = 1#1 ∧ f1 (ix2 n j) = 1#1 ∧ f2 (ix2 n j) = 1#1 ∧ f3 (ix2 n j) = 1#1 := by
  have at_ (g : Fin 4) := congrFun h (ix2 n ⟨g.val * 1024 + j.val, by omega⟩)
  refine ⟨?_, ?_, ?_, ?_⟩
  · have h0 := at_ 0
    revert h0
    pointwise
    exact id
  · have h1 := at_ 1
    revert h1
    pointwise
    exact id
  · have h2 := at_ 2
    revert h2
    pointwise
    rw [dif_neg (by omega), dif_neg (by omega), dif_pos (by omega)]
    intro h2
    refine (congrArg (fun k => f2 (ix2 n k)) (Fin.ext ?_)).trans h2
    show j.val = 2048 + j.val - 1024 - 1024
    omega
  · have h3 := at_ 3
    revert h3
    pointwise
    rw [dif_neg (by omega), dif_neg (by omega), dif_neg (by omega)]
    intro h3
    refine (congrArg (fun k => f3 (ix2 n k)) (Fin.ext ?_)).trans h3
    show j.val = 3072 + j.val - 1024 - 1024 - 1024
    omega

/-- A group whose flags are all set has no row with a distance just above its least. -/
theorem apart_of_flags (g : Fin 4) (z : FVec Ideal S9216x96 .f32) (e : FVec Ideal S1024x96 .f32)
    (hz : ∀ n k, z (ix2 n k) = zrow X g n k) (he : ∀ j k, e (ix2 j k) = code C g j k) (n : Fin 9216)
    (h : ∀ j : Fin 1024, flags (rise (Group.dmat z e)) (ix2 n j) = 1#1) : Apart (dist (zrow X g n) (code C g)) := by
  have ez : (fun k => z (ix2 n k)) = zrow X g n := funext fun k => hz n k
  have ee : (fun j k => e (ix2 j k)) = code C g := funext fun j => funext fun k => he j k
  intro j
  have hj := of_flag _ n j (h j)
  rw [rise_apply] at hj
  simp only [Group.dmat_apply, ez, ee] at hj
  exact hj

/-- Where the precondition holds, no row of any group has a distance just above its least. -/
theorem allApart_of_pre (h : Cert.Pre_no_near_tie.fn X C = fun _ => 1#1) : AllApart X C := by
  rw [pre_eq] at h
  intro g n
  match g with
  | 0 => exact apart_of_flags X C 0 _ _ (gz0_apply X) (ge0_apply C) n fun j => (ones_of_cat _ _ _ _ h n j).1
  | 1 => exact apart_of_flags X C 1 _ _ (gz1_apply X) (ge1_apply C) n fun j => (ones_of_cat _ _ _ _ h n j).2.1
  | 2 => exact apart_of_flags X C 2 _ _ (gz2_apply X) (ge2_apply C) n fun j => (ones_of_cat _ _ _ _ h n j).2.2.1
  | 3 => exact apart_of_flags X C 3 _ _ (gz3_apply X) (ge3_apply C) n fun j => (ones_of_cat _ _ _ _ h n j).2.2.2

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_near_tie
public import proofs.«01_k».proof.Proof.Vq.Pre
public import Idealize.ShloMosaic.Adequacy
public import Idealize.ShloMosaic.Init

@[expose] public section

noncomputable section

namespace Cert.Proof

open Idealize.ShloMosaic Idealize.SL.Sem Cert.Vq

/-- The reference ends with its arguments unchanged and, declaring no semaphore, with every counter at zero. -/
theorem frame_reference : Cert.quiescent_ReferenceIdeal := fun m ρ _ =>
  (θ_run Cert.ReferenceIdeal.defs _ _).mono (fun r h => ⟨fun c => (h c).2.2.2,
      sem_eq_zero_of_no_sems (by decide) r.2⟩) (reference_run m ρ)

/-- The kernel's two named constants are the words that its code holds. -/
theorem preserves : Cert.preserves_Kernel_KernelIdeal :=
  ⟨IdealRules.named_const.statement Cert.KernelIdeal.κ "neg_two_over_ln2" .f32 0xC038AA3B#32 _ rfl,
    IdealRules.named_const.statement Cert.KernelIdeal.κ "loss_scale" .f32 0x34BDA12F#32 _ rfl⟩

/-- Where no row has a distance just above its least, the kernel's three results are the reference's: the quantized
    array, the loss and the probabilities. -/
theorem algebraic : Cert.algebraic_KernelIdeal_ReferenceIdeal_pre_no_near_tie := by
  intro m ρ m' ρ' hpre hagree
  refine ⟨fun c => outZq (argX m c) (argC m c), fun c => outLoss (argX m c) (argC m c), fun c => outProb (argX m c) (argC m c),
    kernel_run m ρ, (θ_run Cert.ReferenceIdeal.defs _ _).mono (fun r h c => ?_) (reference_run m' ρ')⟩
  have hA : AllApart (argX m c) (argC m c) := allApart_of_pre _ _ (hpre c)
  obtain ⟨h0, h1, h2, ha0, ha1⟩ := h c
  obtain ⟨e0, e1⟩ := hagree c
  rw [e0, e1] at h0 h1 h2
  exact ⟨h0.trans (zq_eq hA).symm, h1.trans (loss_result_eq hA).symm, h2.trans (prob_result_eq hA).symm, ha0, ha1⟩

/-- All seven claims. -/
theorem claim : Cert.Claim :=
  ⟨Cert.Kernel.Gen.facts, Cert.KernelIdeal.Gen.facts, Cert.ReferenceIdeal.Gen.facts, Cert.Pre_no_near_tie.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
